-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_block_top_distinct_KernelIdeal [hPre_block_top_distinct_KernelIdeal : Cert.Pre_block_top_distinct_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_block_top_distinct_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_DistinctIdeal (m : (ℓ : Loc Cert.DistinctIdeal.nD Cert.DistinctIdeal.τ Cert.DistinctIdeal.sig) → Buf (Elt Ideal) ℓ) : Prop :=
  True

def Pre_DistinctIdeal_block_top_distinct_DistinctIdeal [hPre_block_top_distinct_DistinctIdeal : Cert.Pre_block_top_distinct_DistinctIdeal.Facts] (m : (ℓ : Loc Cert.DistinctIdeal.nD Cert.DistinctIdeal.τ Cert.DistinctIdeal.sig) → Buf (Elt Ideal) ℓ) : Prop :=
  ∀ c : Dev Cert.DistinctIdeal.nD,
    (Cert.Pre_block_top_distinct_DistinctIdeal.fn (F := Ideal) (m ((c.tc : Thread Cert.DistinctIdeal.nD Cert.DistinctIdeal.τ).loc Cert.DistinctIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_block_top_distinct_KernelIdeal [hKernelIdeal : Cert.KernelIdeal.Facts] [hPre_block_top_distinct_KernelIdeal : Cert.Pre_block_top_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_block_top_distinct_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_DistinctIdeal [hDistinctIdeal : Cert.DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def quiescent_DistinctIdeal_pre_block_top_distinct_DistinctIdeal [hDistinctIdeal : Cert.DistinctIdeal.Facts] [hPre_block_top_distinct_DistinctIdeal : Cert.Pre_block_top_distinct_DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal_block_top_distinct_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def preserves_Kernel_KernelIdeal : Prop :=
  True

def algebraic_KernelIdeal_ReferenceIdeal_on_top_distinct [hKernelIdeal : Cert.KernelIdeal.Facts] [hReferenceIdeal : Cert.ReferenceIdeal.Facts] [hOn_top_distinct : Cert.On_top_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![512, 32768]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16]⟩ : Shape).Idx, (Cert.On_top_distinct.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 16]⟩ : Shape).Idx, (Cert.On_top_distinct.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def algebraic_KernelIdeal_DistinctIdeal_pre_block_top_distinct_KernelIdeal [hKernelIdeal : Cert.KernelIdeal.Facts] [hDistinctIdeal : Cert.DistinctIdeal.Facts] [hPre_block_top_distinct_KernelIdeal : Cert.Pre_block_top_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DistinctIdeal.nD Cert.DistinctIdeal.τ Cert.DistinctIdeal.sig) → Buf (Elt Ideal) ℓ) (g' : Dev Cert.DistinctIdeal.nD → PrngReg), Pre_KernelIdeal_block_top_distinct_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![512, 32768]⟩ 1 8 c (m' (((0 : Dev Cert.DistinctIdeal.nD).tc : Thread Cert.DistinctIdeal.nD Cert.DistinctIdeal.τ).loc Cert.DistinctIdeal.main_arg0))) →
    ∃ (v0 : Buf (Elt Ideal) (((0 : Dev Cert.DistinctIdeal.nD).tc : Thread Cert.DistinctIdeal.nD Cert.DistinctIdeal.τ).loc Cert.DistinctIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.DistinctIdeal.defs (F := Ideal)) (onTc (τ := Cert.DistinctIdeal.τ) (Cert.DistinctIdeal.main (F := Ideal))) ⟨m', fun _ => 0, g'⟩ (fun r =>
          r.2.mem (((0 : Dev Cert.DistinctIdeal.nD).tc : Thread Cert.DistinctIdeal.nD Cert.DistinctIdeal.τ).loc Cert.DistinctIdeal.main_v11) = v0
          ∧ r.2.mem (((0 : Dev Cert.DistinctIdeal.nD).tc : Thread Cert.DistinctIdeal.nD Cert.DistinctIdeal.τ).loc Cert.DistinctIdeal.main_arg0) = m' (((0 : Dev Cert.DistinctIdeal.nD).tc : Thread Cert.DistinctIdeal.nD Cert.DistinctIdeal.τ).loc Cert.DistinctIdeal.main_arg0))

def Claim : Prop :=
  ∃ (hKernel : Cert.Kernel.Facts) (hKernelIdeal : Cert.KernelIdeal.Facts) (hReferenceIdeal : Cert.ReferenceIdeal.Facts) (hDistinctIdeal : Cert.DistinctIdeal.Facts) (hPre_block_top_distinct_KernelIdeal : Cert.Pre_block_top_distinct_KernelIdeal.Facts) (hPre_block_top_distinct_DistinctIdeal : Cert.Pre_block_top_distinct_DistinctIdeal.Facts) (hOn_top_distinct : Cert.On_top_distinct.Facts),
    quiescent_Kernel (hKernel := hKernel)
    ∧ quiescent_KernelIdeal (hKernelIdeal := hKernelIdeal)
    ∧ quiescent_KernelIdeal_pre_block_top_distinct_KernelIdeal (hKernelIdeal := hKernelIdeal) (hPre_block_top_distinct_KernelIdeal := hPre_block_top_distinct_KernelIdeal)
    ∧ quiescent_ReferenceIdeal (hReferenceIdeal := hReferenceIdeal)
    ∧ quiescent_DistinctIdeal (hDistinctIdeal := hDistinctIdeal)
    ∧ quiescent_DistinctIdeal_pre_block_top_distinct_DistinctIdeal (hDistinctIdeal := hDistinctIdeal) (hPre_block_top_distinct_DistinctIdeal := hPre_block_top_distinct_DistinctIdeal)
    ∧ preserves_Kernel_KernelIdeal
    ∧ algebraic_KernelIdeal_ReferenceIdeal_on_top_distinct (hKernelIdeal := hKernelIdeal) (hReferenceIdeal := hReferenceIdeal) (hOn_top_distinct := hOn_top_distinct)
    ∧ algebraic_KernelIdeal_DistinctIdeal_pre_block_top_distinct_KernelIdeal (hKernelIdeal := hKernelIdeal) (hDistinctIdeal := hDistinctIdeal) (hPre_block_top_distinct_KernelIdeal := hPre_block_top_distinct_KernelIdeal)
-- ==== On_top_distinct.lean ====
abbrev S512x32768 : Shape := ⟨2, ![512, 32768]⟩
abbrev S512x16 : Shape := ⟨2, ![512, 16]⟩
abbrev S512x15 : Shape := ⟨2, ![512, 15]⟩
abbrev S15 : Shape := ⟨1, ![15]⟩
abbrev S15x1 : Shape := ⟨2, ![15, 1]⟩
abbrev S16 : Shape := ⟨1, ![16]⟩
abbrev S1x16 : Shape := ⟨2, ![1, 16]⟩
abbrev S15x16 : Shape := ⟨2, ![15, 16]⟩
abbrev S512x15x1 : Shape := ⟨3, ![512, 15, 1]⟩
abbrev S1x15x16 : Shape := ⟨3, ![1, 15, 16]⟩
abbrev S512x15x16 : Shape := ⟨3, ![512, 15, 16]⟩
abbrev S_ : Shape := ⟨0, ![]⟩

class Facts : Prop where
  slices_S512x32768_S512x16_0_0 : S512x32768.Slices ![0, 0] S512x16
  slices_S512x16_S512x15_0_0 : S512x16.Slices ![0, 0] S512x15
  slices_S512x16_S512x15_0_1 : S512x16.Slices ![0, 1] S512x15
  bcast_S15_S15x1_0 : S15.BroadcastsInDim S15x1 (![0] : Fin 1 → Fin S15x1.rank)
  bcast_S16_S1x16_1 : S16.BroadcastsInDim S1x16 (![1] : Fin 1 → Fin S1x16.rank)
  bcast_S15x1_S15x16_0_1 : S15x1.BroadcastsInDim S15x16 (![0, 1] : Fin 2 → Fin S15x16.rank)
  bcast_S1x16_S15x16_0_1 : S1x16.BroadcastsInDim S15x16 (![0, 1] : Fin 2 → Fin S15x16.rank)
  bcast_S512x15_S512x15x1_0_1 : S512x15.BroadcastsInDim S512x15x1 (![0, 1] : Fin 2 → Fin S512x15x1.rank)
  bcast_S15x16_S1x15x16_1_2 : S15x16.BroadcastsInDim S1x15x16 (![1, 2] : Fin 2 → Fin S1x15x16.rank)
  bcast_S512x15x1_S512x15x16_0_1_2 : S512x15x1.BroadcastsInDim S512x15x16 (![0, 1, 2] : Fin 3 → Fin S512x15x16.rank)
  bcast_S1x15x16_S512x15x16_0_1_2 : S1x15x16.BroadcastsInDim S512x15x16 (![0, 1, 2] : Fin 3 → Fin S512x15x16.rank)
  reducesTo_S512x15x16_S512x16_d1 : S512x15x16.ReducesTo [1] S512x16
  h_S_ : 0 < S_.numel

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x32768 .f32) : FVec F S512x32768 .f32 :=
  let v0 : FVec F S512x32768 .f32 := (fun x => Host.sort S512x32768 1 comparator_f32_d1 x) arg0
  v0

def fn {F : FTy → Type} [FloatOps F] (main_arg0 : FVec F S512x32768 .f32) : IVec S512x16 1 :=
  let main_v0 : FVec F S512x32768 .f32 := Host.negf main_arg0
  let main_v1 : FVec F S512x32768 .f32 := fn_sort (F := F) main_v0
  let main_v2 : FVec F S512x16 .f32 := (extractStridedSlice S512x16 ![0, 0] · slices_S512x32768_S512x16_0_0) main_v1
  let main_v3 : FVec F S512x15 .f32 := (extractStridedSlice S512x15 ![0, 0] · slices_S512x16_S512x15_0_0) main_v2
  let main_v4 : FVec F S512x15 .f32 := (extractStridedSlice S512x15 ![0, 1] · slices_S512x16_S512x15_0_1) main_v2
  let main_v5 : IVec S512x15 1 := cmpf .olt main_v3 main_v4
  let main_v6 : IVec S15 32 := iotaInDim S15 32 0
  let main_v7 : IVec S15x1 32 := broadcastInDim S15x1 ![0] bcast_S15_S15x1_0 main_v6
  let main_v8 : IVec S16 32 := iotaInDim S16 32 0
  let main_v9 : IVec S1x16 32 := broadcastInDim S1x16 ![1] bcast_S16_S1x16_1 main_v8
  let main_v10 : IVec S15x16 32 := broadcastInDim S15x16 ![0, 1] bcast_S15x1_S15x16_0_1 main_v7
  let main_v11 : IVec S15x16 32 := broadcastInDim S15x16 ![0, 1] bcast_S1x16_S15x16_0_1 main_v9
  let main_v12 : IVec S15x16 1 := cmpi .sge main_v10 main_v11
  let main_v13 : IVec S512x15x1 1 := broadcastInDim S512x15x1 ![0, 1] bcast_S512x15_S512x15x1_0_1 main_v5
  let main_v14 : IVec S1x15x16 1 := broadcastInDim S1x15x16 ![1, 2] bcast_S15x16_S1x15x16_1_2 main_v12
  let main_v15 : IVec S512x15x16 1 := broadcastInDim S512x15x16 ![0, 1, 2] bcast_S512x15x1_S512x15x16_0_1_2 main_v13
  let main_v16 : IVec S512x15x16 1 := broadcastInDim S512x15x16 ![0, 1, 2] bcast_S1x15x16_S512x15x16_0_1_2 main_v14
  let main_v17 : IVec S512x15x16 1 := ori main_v15 main_v16
  let main_c : IVec S_ 1 := constantI S_ 1 1#1
  let main_v18 : IVec S512x16 1 := (fun x v => Host.reduce IntOp.andi x v reducesTo_S512x15x16_S512x16_d1 h_S_) main_v17 main_c
  main_v18
-- ==== Pre_block_top_distinct_DistinctIdeal.lean ====
abbrev S512x32768 : Shape := ⟨2, ![512, 32768]⟩
abbrev S512x16 : Shape := ⟨2, ![512, 16]⟩
abbrev S512x15 : Shape := ⟨2, ![512, 15]⟩

class Facts : Prop where
  slices_S512x32768_S512x16_0_0 : S512x32768.Slices ![0, 0] S512x16
  slices_S512x16_S512x15_0_0 : S512x16.Slices ![0, 0] S512x15
  slices_S512x16_S512x15_0_1 : S512x16.Slices ![0, 1] S512x15

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x32768 .f32) : FVec F S512x32768 .f32 :=
  let v0 : FVec F S512x32768 .f32 := (fun x => Host.sort S512x32768 1 comparator_f32_d1 x) arg0
  v0

def fn {F : FTy → Type} [FloatOps F] (main_arg0 : FVec F S512x32768 .f32) : IVec S512x15 1 :=
  let main_v0 : FVec F S512x32768 .f32 := Host.negf main_arg0
  let main_v1 : FVec F S512x32768 .f32 := fn_sort (F := F) main_v0
  let main_v2 : FVec F S512x16 .f32 := (extractStridedSlice S512x16 ![0, 0] · slices_S512x32768_S512x16_0_0) main_v1
  let main_v3 : FVec F S512x15 .f32 := (extractStridedSlice S512x15 ![0, 0] · slices_S512x16_S512x15_0_0) main_v2
  let main_v4 : FVec F S512x15 .f32 := (extractStridedSlice S512x15 ![0, 1] · slices_S512x16_S512x15_0_1) main_v2
  let main_v5 : IVec S512x15 1 := cmpf .olt main_v3 main_v4
  main_v5
-- ==== Pre_block_top_distinct_KernelIdeal.lean ====
abbrev S512x4096 : Shape := ⟨2, ![512, 4096]⟩
abbrev S512x16 : Shape := ⟨2, ![512, 16]⟩
abbrev S512x15 : Shape := ⟨2, ![512, 15]⟩

class Facts : Prop where
  slices_S512x4096_S512x16_0_0 : S512x4096.Slices ![0, 0] S512x16
  slices_S512x16_S512x15_0_0 : S512x16.Slices ![0, 0] S512x15
  slices_S512x16_S512x15_0_1 : S512x16.Slices ![0, 1] S512x15

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x4096 .f32) : FVec F S512x4096 .f32 :=
  let v0 : FVec F S512x4096 .f32 := (fun x => Host.sort S512x4096 1 comparator_f32_d1 x) arg0
  v0

def fn {F : FTy → Type} [FloatOps F] (main_arg0 : FVec F S512x4096 .f32) : IVec S512x15 1 :=
  let main_v0 : FVec F S512x4096 .f32 := Host.negf main_arg0
  let main_v1 : FVec F S512x4096 .f32 := fn_sort (F := F) main_v0
  let main_v2 : FVec F S512x16 .f32 := (extractStridedSlice S512x16 ![0, 0] · slices_S512x4096_S512x16_0_0) main_v1
  let main_v3 : FVec F S512x15 .f32 := (extractStridedSlice S512x15 ![0, 0] · slices_S512x16_S512x15_0_0) main_v2
  let main_v4 : FVec F S512x15 .f32 := (extractStridedSlice S512x15 ![0, 1] · slices_S512x16_S512x15_0_1) main_v2
  let main_v5 : IVec S512x15 1 := cmpf .olt main_v3 main_v4
  main_v5
-- ==== Kernel.lean ====
abbrev S512x4096 : Shape := ⟨2, ![512, 4096]⟩
abbrev S512x16 : Shape := ⟨2, ![512, 16]⟩
abbrev S3x512x16 : Shape := ⟨3, ![3, 512, 16]⟩
abbrev S3 : Shape := ⟨1, ![3]⟩
abbrev S_ : Shape := ⟨0, ![]⟩
abbrev S512x2048 : Shape := ⟨2, ![512, 2048]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x8 : Shape := ⟨2, ![512, 8]⟩
abbrev S512x24 : Shape := ⟨2, ![512, 24]⟩
abbrev S512x4 : Shape := ⟨2, ![512, 4]⟩
abbrev S512x12 : Shape := ⟨2, ![512, 12]⟩
abbrev S512x2 : Shape := ⟨2, ![512, 2]⟩
abbrev S512x6 : Shape := ⟨2, ![512, 6]⟩
abbrev S512x3 : Shape := ⟨2, ![512, 3]⟩
abbrev S1 : Shape := ⟨1, ![1]⟩
abbrev S1x512x16 : Shape := ⟨3, ![1, 512, 16]⟩
abbrev S512x32 : Shape := ⟨2, ![512, 32]⟩

abbrev nBuf : Space → Nat
  | .hbm => 2
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S512x16, .f32⟩
  | .local _ .vmem, ⟨3, _⟩ => ⟨S3x512x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 2 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_405 : BitVec 32 := 1#32
  let v1265 : BitVec 32 := Scalar.muli v3 c1_i32_405
  let v1266 : BitVec 32 := Scalar.addi c0_i32_406 v1265
  v1266.toNat
def k0_dev5 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_463 : BitVec 32 := 1#32
  let v1383 : BitVec 32 := Scalar.muli v4 c1_i32_463
  let v1384 : BitVec 32 := Scalar.addi c0_i32_464 v1383
  v1384.toNat
def k0_dev6 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_520 : BitVec 32 := 1#32
  let v1501 : BitVec 32 := Scalar.muli v5 c1_i32_520
  let v1502 : BitVec 32 := Scalar.addi c0_i32_521 v1501
  v1502.toNat
def k0_dev7 (d0 : Dev nD) : Nat :=
  let c0_i32_580_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_579_r0 : BitVec 32 := 1#32
  let v1622_r0 : BitVec 32 := Scalar.muli v3 c1_i32_579_r0
  let v1623_r0 : BitVec 32 := Scalar.addi c0_i32_580_r0 v1622_r0
  v1623_r0.toNat
def k0_dev8 (d0 : Dev nD) : Nat :=
  let c0_i32_583_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_582_r0 : BitVec 32 := 1#32
  let v1624_r0 : BitVec 32 := Scalar.muli v4 c1_i32_582_r0
  let v1625_r0 : BitVec 32 := Scalar.addi c0_i32_583_r0 v1624_r0
  v1625_r0.toNat
def k0_dev9 (d0 : Dev nD) : Nat :=
  let c0_i32_586_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_585_r0 : BitVec 32 := 1#32
  let v1626_r0 : BitVec 32 := Scalar.muli v5 c1_i32_585_r0
  let v1627_r0 : BitVec 32 := Scalar.addi c0_i32_586_r0 v1626_r0
  v1627_r0.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x32768 : Shape := ⟨2, ![512, 32768]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S512x32768, .f32⟩
  | .hbm, ⟨2, _⟩ => ⟨S512x32768, .i32⟩
  | .hbm, ⟨3, _⟩ => ⟨S512x32768, .f32⟩
  | .hbm, ⟨4, _⟩ => ⟨S512x32768, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== DistinctIdeal.lean ====
abbrev S512x32768 : Shape := ⟨2, ![512, 32768]⟩
abbrev S512x32767 : Shape := ⟨2, ![512, 32767]⟩
abbrev S_ : Shape := ⟨0, ![]⟩
abbrev S512x1 : Shape := ⟨2, ![512, 1]⟩
abbrev S512x16 : Shape := ⟨2, ![512, 16]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S512x32768, .f32⟩
  | .hbm, ⟨2, _⟩ => ⟨S512x32767, .f32⟩
  | .hbm, ⟨3, _⟩ => ⟨S512x32767, .f32⟩
  | .hbm, ⟨4, _⟩ => ⟨S512x32767, .i1⟩
  | .hbm, ⟨5, _⟩ => ⟨S512x32767, .f32⟩
  | .hbm, ⟨6, _⟩ => ⟨S_, .f32⟩
  | .hbm, ⟨7, _⟩ => ⟨S_, .f32⟩
  | .hbm, ⟨8, _⟩ => ⟨S512x32767, .f32⟩
  | .hbm, ⟨9, _⟩ => ⟨S512x32767, .f32⟩
  | .hbm, ⟨10, _⟩ => ⟨S512x1, .f32⟩
  | .hbm, ⟨11, _⟩ => ⟨S512x32768, .f32⟩
  | .hbm, ⟨12, _⟩ => ⟨S512x32768, .f32⟩
  | .hbm, ⟨13, _⟩ => ⟨S512x32768, .i32⟩
  | .hbm, ⟨14, _⟩ => ⟨S512x32768, .f32⟩
  | .hbm, ⟨15, _⟩ => ⟨S512x32768, .i32⟩
  | .hbm, ⟨16, _⟩ => ⟨S512x16, .i32⟩
  | .hbm, ⟨17, _⟩ => ⟨S_, .i32⟩
  | .hbm, ⟨18, _⟩ => ⟨S512x16, .i32⟩
  | .hbm, ⟨19, _⟩ => ⟨S512x16, .i1⟩
  | .hbm, ⟨20, _⟩ => ⟨S_, .i32⟩
  | .hbm, ⟨21, _⟩ => ⟨S512x16, .i32⟩
  | .hbm, ⟨22, _⟩ => ⟨S512x16, .i32⟩
  | .hbm, ⟨23, _⟩ => ⟨S512x16, .i32⟩
  | .hbm, ⟨24, _⟩ => ⟨S512x16x1, .i32⟩
  | .hbm, ⟨25, _⟩ => ⟨S1, .i32⟩
  | .hbm, ⟨26, _⟩ => ⟨S_, .i32⟩
  | .hbm, ⟨27, _⟩ => ⟨S512x16x1, .i32⟩
  | .hbm, ⟨28, _⟩ => ⟨S512x16x1, .i1⟩
  | .hbm, ⟨29, _⟩ => ⟨S1x1x1, .i32⟩
  | .hbm, ⟨30, _⟩ => ⟨S512x16x1, .i32⟩
  | .hbm, ⟨31, _⟩ => ⟨S512x16x1, .i1⟩
  | .hbm, ⟨32, _⟩ => ⟨S512x16x1, .i1⟩
  | .hbm, ⟨33, _⟩ => ⟨S_, .i1⟩
  | .hbm, ⟨34, _⟩ => ⟨S512x16, .i1⟩
  | .hbm, ⟨35, _⟩ => ⟨S512x16, .f32⟩
  | .hbm, ⟨36, _⟩ => ⟨S_, .f32⟩
  | .hbm, ⟨37, _⟩ => ⟨S512x16, .f32⟩
  | .hbm, ⟨38, _⟩ => ⟨S512x16, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_call1_v0 : Ref sig .tc := ⟨.hbm, 7, rfl⟩
abbrev main_call1_v1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call2_v0 : Ref sig .tc := ⟨.hbm, 13, rfl⟩
abbrev main_call2_v1_0 : Ref sig .tc := ⟨.hbm, 14, rfl⟩
abbrev main_v9 : Ref sig .tc := ⟨.hbm, 15, rfl⟩
abbrev main_v10 : Ref sig .tc := ⟨.hbm, 16, rfl⟩
abbrev main_call3_c : Ref sig .tc := ⟨.hbm, 17, rfl⟩
abbrev main_call3_v0 : Ref sig .tc := ⟨.hbm, 18, rfl⟩
abbrev main_call3_v1 : Ref sig .tc := ⟨.hbm, 19, rfl⟩
abbrev main_call3_c_0 : Ref sig .tc := ⟨.hbm, 20, rfl⟩
abbrev main_call3_v2 : Ref sig .tc := ⟨.hbm, 21, rfl⟩
abbrev main_call3_v3 : Ref sig .tc := ⟨.hbm, 22, rfl⟩
abbrev main_call3_v4 : Ref sig .tc := ⟨.hbm, 23, rfl⟩
abbrev main_call3_v5 : Ref sig .tc := ⟨.hbm, 24, rfl⟩
abbrev main_call3_c_1 : Ref sig .tc := ⟨.hbm, 25, rfl⟩
abbrev main_call3_c_2 : Ref sig .tc := ⟨.hbm, 26, rfl⟩
abbrev main_call3_v6 : Ref sig .tc := ⟨.hbm, 27, rfl⟩
abbrev main_call3_v7 : Ref sig .tc := ⟨.hbm, 28, rfl⟩
abbrev main_call3_v8 : Ref sig .tc := ⟨.hbm, 29, rfl⟩
abbrev main_call3_v9 : Ref sig .tc := ⟨.hbm, 30, rfl⟩
abbrev main_call3_v10 : Ref sig .tc := ⟨.hbm, 31, rfl⟩
abbrev main_call3_v11 : Ref sig .tc := ⟨.hbm, 32, rfl⟩
abbrev main_call3_c_3 : Ref sig .tc := ⟨.hbm, 33, rfl⟩
abbrev main_call3_v12 : Ref sig .tc := ⟨.hbm, 34, rfl⟩
abbrev main_call3_v13 : Ref sig .tc := ⟨.hbm, 35, rfl⟩
abbrev main_call3_cst : Ref sig .tc := ⟨.hbm, 36, rfl⟩
abbrev main_call3_v14 : Ref sig .tc := ⟨.hbm, 37, rfl⟩
abbrev main_v11 : Ref sig .tc := ⟨.hbm, 38, rfl⟩

abbrev nD : Nat := 1
abbrev τ : Topo := Topo.v7x

variable {F : FTy → Type} [FloatOps F]
-- ==== Proof.Vals.lean ====
/- The values the body computes, named one after another: each is a payload of the body applied to the values before it.
   `C0` is what one device makes of its block, `MG0`, `MG1`, `MG2` what a round makes of a device's candidates and its
   peer's. -/
module

public import proofs.«01_k».proof.Proof.Gen.KernelIdeal.Skeleton

@[expose] public section

set_option synthInstance.maxSize 4096

noncomputable section

namespace Cert.KernelIdeal.Val

open Idealize.ShloMosaic Idealize.SL.Sem Cert.KernelIdeal Cert.KernelIdeal.Gen

variable {F : FTy → Type} [FloatOps F]

def x18 (x : Vec F S512x4096 .f32) : FVec F S512x2048 .f32 := k0_pay5 x
def x22 (x : Vec F S512x4096 .f32) : FVec F S512x1024 .f32 := k0_pay9 x
def x26 (x : Vec F S512x4096 .f32) : FVec F S512x512 .f32 := k0_pay13 x
def x29 (x : Vec F S512x4096 .f32) : FVec F S512x256 .f32 := k0_pay16 x
def x30 (x : Vec F S512x4096 .f32) : FVec F S512x256 .f32 := k0_pay17 x
def x32 (x : Vec F S512x4096 .f32) : FVec F S512x1 .f32 := k0_pay18 x
def x34 (x : Vec F S512x4096 .f32) : IVec S512x256 1 := k0_pay19 x
def x38 (x : Vec F S512x4096 .f32) : FVec F S512x1 .f32 := k0_pay20 (x29 x) (x34 x) (Scalar.ofBits .f32 0xFF800000#32)
def x44 (x : Vec F S512x4096 .f32) : FVec F S512x1 .f32 := k0_pay21 (x29 x) (x34 x) (Scalar.ofBits .f32 0xFF800000#32)
def x50 (x : Vec F S512x4096 .f32) : FVec F S512x1 .f32 := k0_pay22 (x29 x) (x34 x) (Scalar.ofBits .f32 0xFF800000#32)
def x56 (x : Vec F S512x4096 .f32) : FVec F S512x1 .f32 := k0_pay23 (x29 x) (x34 x) (Scalar.ofBits .f32 0xFF800000#32)
def x62 (x : Vec F S512x4096 .f32) : FVec F S512x1 .f32 := k0_pay24 (x29 x) (x34 x) (Scalar.ofBits .f32 0xFF800000#32)
def x68 (x : Vec F S512x4096 .f32) : FVec F S512x1 .f32 := k0_pay25 (x29 x) (x34 x) (Scalar.ofBits .f32 0xFF800000#32)
def x74 (x : Vec F S512x4096 .f32) : FVec F S512x1 .f32 := k0_pay26 (x29 x) (x34 x) (Scalar.ofBits .f32 0xFF800000#32)
def x79 (x : Vec F S512x4096 .f32) : FVec F S512 .f32 := k0_pay27 (x29 x) (x34 x) (Scalar.ofBits .f32 0xFF800000#32)
def x123 (x : Vec F S512x4096 .f32) : FVec F S512x16 .f32 := k0_pay28 (x29 x) (x32 x) (x38 x) (x44 x) (x50 x) (x56 x) (x62 x) (x68 x) (x74 x) (x79 x)
def x124 (x : Vec F S512x4096 .f32) : FVec F S512 .f32 := k0_pay29 (x30 x)
def x169 (x : Vec F S512x4096 .f32) : FVec F S512x24 .f32 := k0_pay30 (x30 x) (x123 x) (x124 x)
def x171 (x : Vec F S512x4096 .f32) : FVec F S512x1 .f32 := k0_pay31 (x169 x)
def x177 (x : Vec F S512x4096 .f32) : FVec F S512x1 .f32 := k0_pay32 (x169 x)
def x183 (x : Vec F S512x4096 .f32) : FVec F S512x1 .f32 := k0_pay33 (x169 x)
def x189 (x : Vec F S512x4096 .f32) : FVec F S512x1 .f32 := k0_pay34 (x169 x)
def x195 (x : Vec F S512x4096 .f32) : FVec F S512x1 .f32 := k0_pay35 (x169 x)
def x201 (x : Vec F S512x4096 .f32) : FVec F S512x1 .f32 := k0_pay36 (x169 x)
def x207 (x : Vec F S512x4096 .f32) : FVec F S512x1 .f32 := k0_pay37 (x169 x)
def x213 (x : Vec F S512x4096 .f32) : FVec F S512x1 .f32 := k0_pay38 (x169 x)
def x215 (x : Vec F S512x4096 .f32) : IVec S512x24 1 := k0_pay39 (x169 x)
def x219 (x : Vec F S512x4096 .f32) : FVec F S512x1 .f32 := k0_pay40 (x169 x) (x215 x)
def x225 (x : Vec F S512x4096 .f32) : FVec F S512x1 .f32 := k0_pay41 (x169 x) (x215 x)
def x231 (x : Vec F S512x4096 .f32) : FVec F S512x1 .f32 := k0_pay42 (x169 x) (x215 x)
def x237 (x : Vec F S512x4096 .f32) : FVec F S512x1 .f32 := k0_pay43 (x169 x) (x215 x)
def x243 (x : Vec F S512x4096 .f32) : FVec F S512x1 .f32 := k0_pay44 (x169 x) (x215 x)
def x249 (x : Vec F S512x4096 .f32) : FVec F S512x1 .f32 := k0_pay45 (x169 x) (x215 x)
def x255 (x : Vec F S512x4096 .f32) : FVec F S512x1 .f32 := k0_pay46 (x169 x) (x215 x)
def x259 (x : Vec F S512x4096 .f32) : FVec F S512x24 .f32 := k0_pay47 (x169 x) (x215 x)
def x262 (x : Vec F S512x4096 .f32) : FVec F S512x16 .f32 := k0_pay48 (x171 x) (x177 x) (x183 x) (x189 x) (x195 x) (x201 x) (x207 x) (x213 x) (x219 x) (x225 x) (x231 x) (x237 x) (x243 x) (x249 x) (x255 x) (x259 x)
def x265 (x : Vec F S512x4096 .f32) : FVec F S512x256 .f32 := k0_pay51 (x26 x)
def x266 (x : Vec F S512x4096 .f32) : FVec F S512x256 .f32 := k0_pay52 (x26 x)
def x268 (x : Vec F S512x4096 .f32) : FVec F S512x1 .f32 := k0_pay53 (x26 x)
def x274 (x : Vec F S512x4096 .f32) : FVec F S512x1 .f32 := k0_pay54 (x26 x)
def x280 (x : Vec F S512x4096 .f32) : FVec F S512x1 .f32 := k0_pay55 (x26 x)
def x286 (x : Vec F S512x4096 .f32) : FVec F S512x1 .f32 := k0_pay56 (x26 x)
def x292 (x : Vec F S512x4096 .f32) : FVec F S512x1 .f32 := k0_pay57 (x26 x)
def x298 (x : Vec F S512x4096 .f32) : FVec F S512x1 .f32 := k0_pay58 (x26 x)
def x304 (x : Vec F S512x4096 .f32) : FVec F S512x1 .f32 := k0_pay59 (x26 x)
def x306 (x : Vec F S512x4096 .f32) : IVec S512x256 1 := k0_pay60 (x26 x)
def x333 (x : Vec F S512x4096 .f32) : FVec F S512x12 .f32 := k0_pay61 (x265 x) (x266 x) (x268 x) (x274 x) (x280 x) (x286 x) (x292 x) (x298 x) (x304 x) (x306 x)
def x335 (x : Vec F S512x4096 .f32) : FVec F S512x1 .f32 := k0_pay62 (x265 x) (x266 x) (x268 x) (x274 x) (x280 x) (x286 x) (x292 x) (x298 x) (x304 x) (x306 x)
def x341 (x : Vec F S512x4096 .f32) : FVec F S512x1 .f32 := k0_pay63 (x265 x) (x266 x) (x268 x) (x274 x) (x280 x) (x286 x) (x292 x) (x298 x) (x304 x) (x306 x)
def x347 (x : Vec F S512x4096 .f32) : FVec F S512x1 .f32 := k0_pay64 (x265 x) (x266 x) (x268 x) (x274 x) (x280 x) (x286 x) (x292 x) (x298 x) (x304 x) (x306 x)
def x351 (x : Vec F S512x4096 .f32) : FVec F S512x12 .f32 := k0_pay65 (x265 x) (x266 x) (x268 x) (x274 x) (x280 x) (x286 x) (x292 x) (x298 x) (x304 x) (x306 x)
def x379 (x : Vec F S512x4096 .f32) : FVec F S512x24 .f32 := k0_pay66 (x262 x) (x333 x) (x335 x) (x341 x) (x347 x) (x351 x)
def x381 (x : Vec F S512x4096 .f32) : FVec F S512x1 .f32 := k0_pay67 (x262 x) (x333 x) (x335 x) (x341 x) (x347 x) (x351 x)
def x387 (x : Vec F S512x4096 .f32) : FVec F S512x1 .f32 := k0_pay68 (x262 x) (x333 x) (x335 x) (x341 x) (x347 x) (x351 x)
def x393 (x : Vec F S512x4096 .f32) : FVec F S512x1 .f32 := k0_pay69 (x262 x) (x333 x) (x335 x) (x341 x) (x347 x) (x351 x)
def x395 (x : Vec F S512x4096 .f32) : IVec S512x24 1 := k0_pay70 (x262 x) (x333 x) (x335 x) (x341 x) (x347 x) (x351 x)
def x396 (x : Vec F S512x4096 .f32) : FVec F S512x24 .f32 := k0_pay71 (F := F)
def x399 (x : Vec F S512x4096 .f32) : FVec F S512x1 .f32 := k0_pay72 (x379 x) (x395 x) (x396 x)
def x405 (x : Vec F S512x4096 .f32) : FVec F S512x1 .f32 := k0_pay73 (x379 x) (x395 x) (x396 x)
def x411 (x : Vec F S512x4096 .f32) : FVec F S512x1 .f32 := k0_pay74 (x379 x) (x395 x) (x396 x)
def x417 (x : Vec F S512x4096 .f32) : FVec F S512x1 .f32 := k0_pay75 (x379 x) (x395 x) (x396 x)
def x423 (x : Vec F S512x4096 .f32) : FVec F S512x1 .f32 := k0_pay76 (x379 x) (x395 x) (x396 x)
def x429 (x : Vec F S512x4096 .f32) : FVec F S512x1 .f32 := k0_pay77 (x379 x) (x395 x) (x396 x)
def x435 (x : Vec F S512x4096 .f32) : FVec F S512x1 .f32 := k0_pay78 (x379 x) (x395 x) (x396 x)
def x441 (x : Vec F S512x4096 .f32) : FVec F S512x1 .f32 := k0_pay79 (x379 x) (x395 x) (x396 x)
def x472 (x : Vec F S512x4096 .f32) : FVec F S512x16 .f32 := k0_pay80 (x379 x) (x381 x) (x387 x) (x393 x) (x399 x) (x405 x) (x411 x) (x417 x) (x423 x) (x429 x) (x435 x) (x441 x)
def x476 (x : Vec F S512x4096 .f32) : FVec F S512x512 .f32 := k0_pay84 (x22 x)
def x479 (x : Vec F S512x4096 .f32) : FVec F S512x256 .f32 := k0_pay87 (x22 x)
def x480 (x : Vec F S512x4096 .f32) : FVec F S512x256 .f32 := k0_pay88 (x22 x)
def x482 (x : Vec F S512x4096 .f32) : FVec F S512x1 .f32 := k0_pay89 (x22 x)
def x488 (x : Vec F S512x4096 .f32) : FVec F S512x1 .f32 := k0_pay90 (x22 x)
def x525 (x : Vec F S512x4096 .f32) : FVec F S512x8 .f32 := k0_pay91 (x479 x) (x482 x) (x488 x)
def x527 (x : Vec F S512x4096 .f32) : FVec F S512x1 .f32 := k0_pay92 (x480 x)
def x533 (x : Vec F S512x4096 .f32) : FVec F S512x1 .f32 := k0_pay93 (x480 x)
def x547 (x : Vec F S512x4096 .f32) : FVec F S512x12 .f32 := k0_pay94 (x480 x) (x525 x) (x527 x) (x533 x)
def x549 (x : Vec F S512x4096 .f32) : FVec F S512x1 .f32 := k0_pay95 (x480 x) (x525 x) (x527 x) (x533 x)
def x555 (x : Vec F S512x4096 .f32) : FVec F S512x1 .f32 := k0_pay96 (x480 x) (x525 x) (x527 x) (x533 x)
def x561 (x : Vec F S512x4096 .f32) : FVec F S512x1 .f32 := k0_pay97 (x480 x) (x525 x) (x527 x) (x533 x)
def x567 (x : Vec F S512x4096 .f32) : FVec F S512x1 .f32 := k0_pay98 (x480 x) (x525 x) (x527 x) (x533 x)
def x573 (x : Vec F S512x4096 .f32) : FVec F S512x1 .f32 := k0_pay99 (x480 x) (x525 x) (x527 x) (x533 x)
def x578 (x : Vec F S512x4096 .f32) : FVec F S512 .f32 := k0_pay100 (x480 x) (x525 x) (x527 x) (x533 x)
def x592 (x : Vec F S512x4096 .f32) : FVec F S512x8 .f32 := k0_pay101 (x547 x) (x549 x) (x555 x) (x561 x) (x567 x) (x573 x) (x578 x)
def x617 (x : Vec F S512x4096 .f32) : FVec F S512x4 .f32 := k0_pay105 (x476 x)
def x619 (x : Vec F S512x4096 .f32) : FVec F S512x1 .f32 := k0_pay106 (x476 x)
def x624 (x : Vec F S512x4096 .f32) : FVec F S512 .f32 := k0_pay107 (x476 x)
def x649 (x : Vec F S512x4096 .f32) : FVec F S512x12 .f32 := k0_pay108 (x592 x) (x617 x) (x619 x) (x624 x)
def x651 (x : Vec F S512x4096 .f32) : FVec F S512x1 .f32 := k0_pay109 (x592 x) (x617 x) (x619 x) (x624 x)
def x657 (x : Vec F S512x4096 .f32) : FVec F S512x1 .f32 := k0_pay110 (x592 x) (x617 x) (x619 x) (x624 x)
def x663 (x : Vec F S512x4096 .f32) : FVec F S512x1 .f32 := k0_pay111 (x592 x) (x617 x) (x619 x) (x624 x)
def x669 (x : Vec F S512x4096 .f32) : FVec F S512x1 .f32 := k0_pay112 (x592 x) (x617 x) (x619 x) (x624 x)
def x670 (x : Vec F S512x4096 .f32) : FVec F S512x12 .f32 := k0_pay113 (x592 x) (x617 x) (x619 x) (x624 x)
def x695 (x : Vec F S512x4096 .f32) : FVec F S512x24 .f32 := k0_pay114 (x472 x) (x649 x) (x651 x) (x657 x) (x663 x) (x669 x) (x670 x)
def x697 (x : Vec F S512x4096 .f32) : FVec F S512x1 .f32 := k0_pay115 (x472 x) (x649 x) (x651 x) (x657 x) (x663 x) (x669 x) (x670 x)
def x703 (x : Vec F S512x4096 .f32) : FVec F S512x1 .f32 := k0_pay116 (x472 x) (x649 x) (x651 x) (x657 x) (x663 x) (x669 x) (x670 x)
def x709 (x : Vec F S512x4096 .f32) : FVec F S512x1 .f32 := k0_pay117 (x472 x) (x649 x) (x651 x) (x657 x) (x663 x) (x669 x) (x670 x)
def x715 (x : Vec F S512x4096 .f32) : FVec F S512x1 .f32 := k0_pay118 (x472 x) (x649 x) (x651 x) (x657 x) (x663 x) (x669 x) (x670 x)
def x721 (x : Vec F S512x4096 .f32) : FVec F S512x1 .f32 := k0_pay119 (x695 x) (x715 x)
def x727 (x : Vec F S512x4096 .f32) : FVec F S512x1 .f32 := k0_pay120 (x695 x) (x715 x)
def x733 (x : Vec F S512x4096 .f32) : FVec F S512x1 .f32 := k0_pay121 (x695 x) (x715 x)
def x739 (x : Vec F S512x4096 .f32) : FVec F S512x1 .f32 := k0_pay122 (x695 x) (x715 x)
def x745 (x : Vec F S512x4096 .f32) : FVec F S512x1 .f32 := k0_pay123 (x695 x) (x715 x)
def x751 (x : Vec F S512x4096 .f32) : FVec F S512x1 .f32 := k0_pay124 (x695 x) (x715 x)
def x757 (x : Vec F S512x4096 .f32) : FVec F S512x1 .f32 := k0_pay125 (x695 x) (x715 x)
def x759 (x : Vec F S512x4096 .f32) : IVec S512x24 1 := k0_pay126 (x695 x) (x715 x)
def x760 (x : Vec F S512x4096 .f32) : FVec F S512x24 .f32 := k0_pay127 (F := F)
def x788 (x : Vec F S512x4096 .f32) : FVec F S512x16 .f32 := k0_pay128 (x695 x) (x697 x) (x703 x) (x709 x) (x715 x) (x721 x) (x727 x) (x733 x) (x739 x) (x745 x) (x751 x) (x757 x) (x759 x) (x760 x)
def x792 (x : Vec F S512x4096 .f32) : FVec F S512x1024 .f32 := k0_pay132 (x18 x)
def x796 (x : Vec F S512x4096 .f32) : FVec F S512x512 .f32 := k0_pay136 (x18 x)
def x799 (x : Vec F S512x4096 .f32) : FVec F S512x256 .f32 := k0_pay139 (x18 x)
def x800 (x : Vec F S512x4096 .f32) : FVec F S512x256 .f32 := k0_pay140 (x18 x)
def x802 (x : Vec F S512x4096 .f32) : FVec F S512x1 .f32 := k0_pay141 (x18 x)
def x808 (x : Vec F S512x4096 .f32) : FVec F S512x1 .f32 := k0_pay142 (x18 x)
def x845 (x : Vec F S512x4096 .f32) : FVec F S512x8 .f32 := k0_pay143 (x799 x) (x802 x) (x808 x)
def x847 (x : Vec F S512x4096 .f32) : FVec F S512x1 .f32 := k0_pay144 (x800 x)
def x853 (x : Vec F S512x4096 .f32) : FVec F S512x1 .f32 := k0_pay145 (x800 x)
def x867 (x : Vec F S512x4096 .f32) : FVec F S512x12 .f32 := k0_pay146 (x800 x) (x845 x) (x847 x) (x853 x)
def x869 (x : Vec F S512x4096 .f32) : FVec F S512x1 .f32 := k0_pay147 (x800 x) (x845 x) (x847 x) (x853 x)
def x875 (x : Vec F S512x4096 .f32) : FVec F S512x1 .f32 := k0_pay148 (x800 x) (x845 x) (x847 x) (x853 x)
def x881 (x : Vec F S512x4096 .f32) : FVec F S512x1 .f32 := k0_pay149 (x800 x) (x845 x) (x847 x) (x853 x)
def x887 (x : Vec F S512x4096 .f32) : FVec F S512x1 .f32 := k0_pay150 (x800 x) (x845 x) (x847 x) (x853 x)
def x893 (x : Vec F S512x4096 .f32) : FVec F S512x1 .f32 := k0_pay151 (x800 x) (x845 x) (x847 x) (x853 x)
def x898 (x : Vec F S512x4096 .f32) : FVec F S512 .f32 := k0_pay152 (x800 x) (x845 x) (x847 x) (x853 x)
def x912 (x : Vec F S512x4096 .f32) : FVec F S512x8 .f32 := k0_pay153 (x867 x) (x869 x) (x875 x) (x881 x) (x887 x) (x893 x) (x898 x)
def x937 (x : Vec F S512x4096 .f32) : FVec F S512x4 .f32 := k0_pay157 (x796 x)
def x939 (x : Vec F S512x4096 .f32) : FVec F S512x1 .f32 := k0_pay158 (x796 x)
def x944 (x : Vec F S512x4096 .f32) : FVec F S512 .f32 := k0_pay159 (x796 x)
def x969 (x : Vec F S512x4096 .f32) : FVec F S512x12 .f32 := k0_pay160 (x912 x) (x937 x) (x939 x) (x944 x)
def x971 (x : Vec F S512x4096 .f32) : FVec F S512x1 .f32 := k0_pay161 (x912 x) (x937 x) (x939 x) (x944 x)
def x977 (x : Vec F S512x4096 .f32) : FVec F S512x1 .f32 := k0_pay162 (x912 x) (x937 x) (x939 x) (x944 x)
def x983 (x : Vec F S512x4096 .f32) : FVec F S512x1 .f32 := k0_pay163 (x912 x) (x937 x) (x939 x) (x944 x)
def x989 (x : Vec F S512x4096 .f32) : FVec F S512x1 .f32 := k0_pay164 (x912 x) (x937 x) (x939 x) (x944 x)
def x990 (x : Vec F S512x4096 .f32) : FVec F S512x12 .f32 := k0_pay165 (x912 x) (x937 x) (x939 x) (x944 x)
def x1014 (x : Vec F S512x4096 .f32) : FVec F S512x8 .f32 := k0_pay166 (x969 x) (x971 x) (x977 x) (x983 x) (x989 x) (x990 x)
def x1018 (x : Vec F S512x4096 .f32) : FVec F S512x512 .f32 := k0_pay170 (x792 x)
def x1021 (x : Vec F S512x4096 .f32) : FVec F S512x256 .f32 := k0_pay173 (x792 x)
def x1022 (x : Vec F S512x4096 .f32) : FVec F S512x256 .f32 := k0_pay174 (x792 x)
def x1024 (x : Vec F S512x4096 .f32) : FVec F S512x1 .f32 := k0_pay175 (x792 x)
def x1030 (x : Vec F S512x4096 .f32) : FVec F S512x1 .f32 := k0_pay176 (x792 x)
def x1036 (x : Vec F S512x4096 .f32) : FVec F S512x1 .f32 := k0_pay177 (x792 x)
def x1037 (x : Vec F S512x4096 .f32) : FVec F S512x256 .f32 := k0_pay178 (x792 x)
def x1074 (x : Vec F S512x4096 .f32) : FVec F S512x4 .f32 := k0_pay179 (x1021 x) (x1022 x) (x1024 x) (x1030 x) (x1036 x) (x1037 x)
def x1077 (x : Vec F S512x4096 .f32) : FVec F S512x256 .f32 := k0_pay182 (x1018 x)
def x1078 (x : Vec F S512x4096 .f32) : FVec F S512x256 .f32 := k0_pay183 (x1018 x)
def x1080 (x : Vec F S512x4096 .f32) : FVec F S512x1 .f32 := k0_pay184 (x1018 x)
def x1082 (x : Vec F S512x4096 .f32) : IVec S512x256 1 := k0_pay185 (x1018 x)
def x1083 (x : Vec F S512x4096 .f32) : FVec F S512x256 .f32 := k0_pay186 (F := F)
def x1122 (x : Vec F S512x4096 .f32) : FVec F S512x12 .f32 := k0_pay187 (x1014 x) (x1074 x) (x1077 x) (x1078 x) (x1080 x) (x1082 x) (x1083 x)
def x1124 (x : Vec F S512x4096 .f32) : FVec F S512x1 .f32 := k0_pay188 (x1014 x) (x1074 x) (x1077 x) (x1078 x) (x1080 x) (x1082 x) (x1083 x)
def x1128 (x : Vec F S512x4096 .f32) : FVec F S512x12 .f32 := k0_pay189 (x1014 x) (x1074 x) (x1077 x) (x1078 x) (x1080 x) (x1082 x) (x1083 x)
def x1168 (x : Vec F S512x4096 .f32) : FVec F S512x24 .f32 := k0_pay190 (x788 x) (x1122 x) (x1124 x) (x1128 x)
def x1170 (x : Vec F S512x4096 .f32) : FVec F S512x1 .f32 := k0_pay191 (x788 x) (x1122 x) (x1124 x) (x1128 x)
def x1174 (x : Vec F S512x4096 .f32) : FVec F S512x24 .f32 := k0_pay192 (x788 x) (x1122 x) (x1124 x) (x1128 x)
def x1176 (x : Vec F S512x4096 .f32) : FVec F S512x1 .f32 := k0_pay193 (x1174 x)
def x1182 (x : Vec F S512x4096 .f32) : FVec F S512x1 .f32 := k0_pay194 (x1168 x) (x1174 x)
def x1188 (x : Vec F S512x4096 .f32) : FVec F S512x1 .f32 := k0_pay195 (x1168 x) (x1174 x)
def x1194 (x : Vec F S512x4096 .f32) : FVec F S512x1 .f32 := k0_pay196 (x1168 x) (x1174 x)
def x1200 (x : Vec F S512x4096 .f32) : FVec F S512x1 .f32 := k0_pay197 (x1168 x) (x1174 x)
def x1206 (x : Vec F S512x4096 .f32) : FVec F S512x1 .f32 := k0_pay198 (x1168 x) (x1174 x)
def x1212 (x : Vec F S512x4096 .f32) : FVec F S512x1 .f32 := k0_pay199 (x1168 x) (x1174 x)
def x1218 (x : Vec F S512x4096 .f32) : FVec F S512x1 .f32 := k0_pay200 (x1168 x) (x1174 x)
def x1219 (x : Vec F S512x4096 .f32) : FVec F S512x24 .f32 := k0_pay201 (x1168 x) (x1174 x)
def x1261 (x : Vec F S512x4096 .f32) : FVec F S512x16 .f32 := k0_pay202 (x1168 x) (x1170 x) (x1176 x) (x1182 x) (x1188 x) (x1194 x) (x1200 x) (x1206 x) (x1212 x) (x1218 x) (x1219 x)

/-- The first stage: the candidates of one device, of its block. -/
def C0 (x : Vec F S512x4096 .f32) : FVec F S512x16 .f32 := k0_pay203 (x1261 x)

def m1286 (a : Vec F S512x16 .f32) (b : Vec F S1x512x16 .f32) : FVec F S512x32 .f32 := k0_pay204 a b
def m1288 (a : Vec F S512x16 .f32) (b : Vec F S1x512x16 .f32) : FVec F S512x1 .f32 := k0_pay205 a b
def m1292 (a : Vec F S512x16 .f32) (b : Vec F S1x512x16 .f32) : FVec F S512x32 .f32 := k0_pay206 a b
def m1294 (a : Vec F S512x16 .f32) (b : Vec F S1x512x16 .f32) : FVec F S512x1 .f32 := k0_pay207 (m1292 a b)
def m1300 (a : Vec F S512x16 .f32) (b : Vec F S1x512x16 .f32) : FVec F S512x1 .f32 := k0_pay208 (m1286 a b) (m1292 a b)
def m1306 (a : Vec F S512x16 .f32) (b : Vec F S1x512x16 .f32) : FVec F S512x1 .f32 := k0_pay209 (m1286 a b) (m1292 a b)
def m1312 (a : Vec F S512x16 .f32) (b : Vec F S1x512x16 .f32) : FVec F S512x1 .f32 := k0_pay210 (m1286 a b) (m1292 a b)
def m1318 (a : Vec F S512x16 .f32) (b : Vec F S1x512x16 .f32) : FVec F S512x1 .f32 := k0_pay211 (m1286 a b) (m1292 a b)
def m1324 (a : Vec F S512x16 .f32) (b : Vec F S1x512x16 .f32) : FVec F S512x1 .f32 := k0_pay212 (m1286 a b) (m1292 a b)
def m1330 (a : Vec F S512x16 .f32) (b : Vec F S1x512x16 .f32) : FVec F S512x1 .f32 := k0_pay213 (m1286 a b) (m1292 a b)
def m1336 (a : Vec F S512x16 .f32) (b : Vec F S1x512x16 .f32) : FVec F S512x1 .f32 := k0_pay214 (m1286 a b) (m1292 a b)
def m1337 (a : Vec F S512x16 .f32) (b : Vec F S1x512x16 .f32) : FVec F S512x32 .f32 := k0_pay215 (m1286 a b) (m1292 a b)
def m1379 (a : Vec F S512x16 .f32) (b : Vec F S1x512x16 .f32) : FVec F S512x16 .f32 := k0_pay216 (m1286 a b) (m1288 a b) (m1294 a b) (m1300 a b) (m1306 a b) (m1312 a b) (m1318 a b) (m1324 a b) (m1330 a b) (m1336 a b) (m1337 a b)

/-- Round 1: a device's candidates merged with what its peer sent. -/
def MG0 (a : Vec F S512x16 .f32) (b : Vec F S1x512x16 .f32) : FVec F S512x16 .f32 := k0_pay217 (m1379 a b)

def m1404 (a : Vec F S512x16 .f32) (b : Vec F S1x512x16 .f32) : FVec F S512x32 .f32 := k0_pay218 a b
def m1406 (a : Vec F S512x16 .f32) (b : Vec F S1x512x16 .f32) : FVec F S512x1 .f32 := k0_pay219 a b
def m1410 (a : Vec F S512x16 .f32) (b : Vec F S1x512x16 .f32) : FVec F S512x32 .f32 := k0_pay220 a b
def m1412 (a : Vec F S512x16 .f32) (b : Vec F S1x512x16 .f32) : FVec F S512x1 .f32 := k0_pay221 (m1410 a b)
def m1418 (a : Vec F S512x16 .f32) (b : Vec F S1x512x16 .f32) : FVec F S512x1 .f32 := k0_pay222 (m1404 a b) (m1410 a b)
def m1424 (a : Vec F S512x16 .f32) (b : Vec F S1x512x16 .f32) : FVec F S512x1 .f32 := k0_pay223 (m1404 a b) (m1410 a b)
def m1430 (a : Vec F S512x16 .f32) (b : Vec F S1x512x16 .f32) : FVec F S512x1 .f32 := k0_pay224 (m1404 a b) (m1410 a b)
def m1436 (a : Vec F S512x16 .f32) (b : Vec F S1x512x16 .f32) : FVec F S512x1 .f32 := k0_pay225 (m1404 a b) (m1410 a b)
def m1442 (a : Vec F S512x16 .f32) (b : Vec F S1x512x16 .f32) : FVec F S512x1 .f32 := k0_pay226 (m1404 a b) (m1410 a b)
def m1448 (a : Vec F S512x16 .f32) (b : Vec F S1x512x16 .f32) : FVec F S512x1 .f32 := k0_pay227 (m1404 a b) (m1410 a b)
def m1454 (a : Vec F S512x16 .f32) (b : Vec F S1x512x16 .f32) : FVec F S512x1 .f32 := k0_pay228 (m1404 a b) (m1410 a b)
def m1455 (a : Vec F S512x16 .f32) (b : Vec F S1x512x16 .f32) : FVec F S512x32 .f32 := k0_pay229 (m1404 a b) (m1410 a b)
def m1497 (a : Vec F S512x16 .f32) (b : Vec F S1x512x16 .f32) : FVec F S512x16 .f32 := k0_pay230 (m1404 a b) (m1406 a b) (m1412 a b) (m1418 a b) (m1424 a b) (m1430 a b) (m1436 a b) (m1442 a b) (m1448 a b) (m1454 a b) (m1455 a b)

/-- Round 2: a device's candidates merged with what its peer sent. -/
def MG1 (a : Vec F S512x16 .f32) (b : Vec F S1x512x16 .f32) : FVec F S512x16 .f32 := k0_pay231 (m1497 a b)

def m1522 (a : Vec F S512x16 .f32) (b : Vec F S1x512x16 .f32) : FVec F S512x32 .f32 := k0_pay232 a b
def m1524 (a : Vec F S512x16 .f32) (b : Vec F S1x512x16 .f32) : FVec F S512x1 .f32 := k0_pay233 a b
def m1528 (a : Vec F S512x16 .f32) (b : Vec F S1x512x16 .f32) : FVec F S512x32 .f32 := k0_pay234 a b
def m1530 (a : Vec F S512x16 .f32) (b : Vec F S1x512x16 .f32) : FVec F S512x1 .f32 := k0_pay235 (m1528 a b)
def m1536 (a : Vec F S512x16 .f32) (b : Vec F S1x512x16 .f32) : FVec F S512x1 .f32 := k0_pay236 (m1522 a b) (m1528 a b)
def m1542 (a : Vec F S512x16 .f32) (b : Vec F S1x512x16 .f32) : FVec F S512x1 .f32 := k0_pay237 (m1522 a b) (m1528 a b)
def m1548 (a : Vec F S512x16 .f32) (b : Vec F S1x512x16 .f32) : FVec F S512x1 .f32 := k0_pay238 (m1522 a b) (m1528 a b)
def m1554 (a : Vec F S512x16 .f32) (b : Vec F S1x512x16 .f32) : FVec F S512x1 .f32 := k0_pay239 (m1522 a b) (m1528 a b)
def m1560 (a : Vec F S512x16 .f32) (b : Vec F S1x512x16 .f32) : FVec F S512x1 .f32 := k0_pay240 (m1522 a b) (m1528 a b)
def m1566 (a : Vec F S512x16 .f32) (b : Vec F S1x512x16 .f32) : FVec F S512x1 .f32 := k0_pay241 (m1522 a b) (m1528 a b)
def m1572 (a : Vec F S512x16 .f32) (b : Vec F S1x512x16 .f32) : FVec F S512x1 .f32 := k0_pay242 (m1522 a b) (m1528 a b)
def m1573 (a : Vec F S512x16 .f32) (b : Vec F S1x512x16 .f32) : FVec F S512x32 .f32 := k0_pay243 (m1522 a b) (m1528 a b)
def m1615 (a : Vec F S512x16 .f32) (b : Vec F S1x512x16 .f32) : FVec F S512x16 .f32 := k0_pay244 (m1522 a b) (m1524 a b) (m1530 a b) (m1536 a b) (m1542 a b) (m1548 a b) (m1554 a b) (m1560 a b) (m1566 a b) (m1572 a b) (m1573 a b)

/-- Round 3: a device's candidates merged with what its peer sent. -/
def MG2 (a : Vec F S512x16 .f32) (b : Vec F S1x512x16 .f32) : FVec F S512x16 .f32 := k0_pay245 (m1615 a b)

end Cert.KernelIdeal.Val

end
-- ==== Proof.Body.lean ====
/- The body as one straight line: every operation in its order, the values between two of them named by `Val.C0`,
   `Val.MG0`, `Val.MG1` and `Val.MG2`. -/
module

public import proofs.«01_k».proof.Proof.Vals

@[expose] public section

set_option synthInstance.maxSize 4096

noncomputable section

namespace Cert.KernelIdeal.Val

open Idealize.ShloMosaic Idealize.SL.Sem Cert.KernelIdeal Cert.KernelIdeal.Gen

variable {F : FTy → Type} [FloatOps F]

/-- Entry 0 of a family of three DMA semaphores. -/
abbrev entry0 (a : DmaSems sig S3) : DmaSems sig S_ := (a.slice (Rect.unit (s := S3) ![0] S1.size inb_S3_S1_0)).squeeze S_ squeezes_S1_S_

/-- Slot 0 of the receive buffer, as a block of candidates. -/
abbrev slot0 (a : Memref sig .tc .vmem S3x512x16 .f32) : Memref sig .tc .vmem S512x16 .f32 :=
  (a.slice (Rect.unit (s := S3x512x16) ![0, 0, 0] S1x512x16.size inb_S3x512x16_S1x512x16_0_0_0) (fun _ => rfl)).squeeze S512x16 squeezes_S1x512x16_S512x16

/-- Entry 1 of a family of three DMA semaphores. -/
abbrev entry1 (a : DmaSems sig S3) : DmaSems sig S_ := (a.slice (Rect.unit (s := S3) ![1] S1.size inb_S3_S1_1)).squeeze S_ squeezes_S1_S_

/-- Slot 1 of the receive buffer, as a block of candidates. -/
abbrev slot1 (a : Memref sig .tc .vmem S3x512x16 .f32) : Memref sig .tc .vmem S512x16 .f32 :=
  (a.slice (Rect.unit (s := S3x512x16) ![1, 0, 0] S1x512x16.size inb_S3x512x16_S1x512x16_1_0_0) (fun _ => rfl)).squeeze S512x16 squeezes_S1x512x16_S512x16

/-- Entry 2 of a family of three DMA semaphores. -/
abbrev entry2 (a : DmaSems sig S3) : DmaSems sig S_ := (a.slice (Rect.unit (s := S3) ![2] S1.size inb_S3_S1_2)).squeeze S_ squeezes_S1_S_

/-- Slot 2 of the receive buffer, as a block of candidates. -/
abbrev slot2 (a : Memref sig .tc .vmem S3x512x16 .f32) : Memref sig .tc .vmem S512x16 .f32 :=
  (a.slice (Rect.unit (s := S3x512x16) ![2, 0, 0] S1x512x16.size inb_S3x512x16_S1x512x16_2_0_0) (fun _ => rfl)).squeeze S512x16 squeezes_S1x512x16_S512x16

/-- The body's operations in their order. -/
def flat (arg0 : Memref sig .tc .vmem S512x4096 .f32) (harg0 : arg0.IsWhole) (arg1 : Memref sig .tc .vmem S512x16 .f32) (harg1 : arg1.IsWhole)
    (arg2 : Memref sig .tc .vmem S512x16 .f32) (harg2 : arg2.IsWhole) (arg3 : Memref sig .tc .vmem S3x512x16 .f32) (harg3 : arg3.IsWhole)
    (arg4 : DmaSems sig S3) (arg5 : DmaSems sig S3) (sem2 : Sems sig S_) :
    Prog (TpuEff nD τ sig (Elt F) Λ₀ .tc) PUnit := do
  let d0 : Dev nD ← Prog.lift .deviceId
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semSignalWord (⟨k0_dev3 d0, k0_dev3_lt d0⟩ : Dev nD) (SemArray.scalar (sig.barrier 0 rfl) : Sems sig S_).sem 1#32
  semWaitWord (SemArray.scalar (sig.barrier 0 rfl) : Sems sig S_).sem 3#32
  let x : Vec F S512x4096 .f32 ← Prog.lift (.load arg0 (Rect.unit (s := S512x4096) ![0, 0] S512x4096.size inb_S512x4096_S512x4096_0_0).toLoadRect (View.loadsAt_vmem h_S512x4096))
  let _ : Vec F S512x16 .f32 ← Prog.lift (.load arg2 (Rect.unit (s := S512x16) ![0, 0] S512x16.size inb_S512x16_S512x16_0_0).toLoadRect (View.loadsAt_vmem h_S512x16))
  Prog.lift (.store arg2 (Rect.unit (s := S512x16) ![0, 0] S512x16.size inb_S512x16_S512x16_0_0) (C0 x) Finset.univ (View.stores_vmem_bits_univ h_S512x16 rfl) (.inl rfl))
  Prog.lift (.enqueueDma arg2 (.remote (Dev.tc (⟨k0_dev4 d0, k0_dev4_lt d0⟩ : Dev nD)) (slot0 arg3) (.dma (entry0 arg4).sem)) (.dma (entry0 arg5).sem) harg2.wordExact ((View.wordExact_bits rfl).reshape _ _) ⟨⟨rfl, Or.inl rfl⟩, trivial⟩)
  Prog.lift (.waitDma2 (entry0 arg4).sem (slot0 arg3) arg2 ((View.wordExact_bits rfl).reshape _ _) harg2.wordExact)
  Prog.lift (.waitDma2 (entry0 arg5).sem arg2 (slot0 arg3) harg2.wordExact ((View.wordExact_bits rfl).reshape _ _))
  let a0 : Vec F S512x16 .f32 ← Prog.lift (.load arg2 (Rect.unit (s := S512x16) ![0, 0] S512x16.size inb_S512x16_S512x16_0_0).toLoadRect (View.loadsAt_vmem h_S512x16))
  let b0 : Vec F S1x512x16 .f32 ← Prog.lift (.load arg3 (Rect.unit (s := S3x512x16) ![0, 0, 0] S1x512x16.size inb_S3x512x16_S1x512x16_0_0_0).toLoadRect (View.loadsAt_vmem h_S1x512x16))
  let _ : Vec F S512x16 .f32 ← Prog.lift (.load arg2 (Rect.unit (s := S512x16) ![0, 0] S512x16.size inb_S512x16_S512x16_0_0).toLoadRect (View.loadsAt_vmem h_S512x16))
  Prog.lift (.store arg2 (Rect.unit (s := S512x16) ![0, 0] S512x16.size inb_S512x16_S512x16_0_0) (MG0 a0 b0) Finset.univ (View.stores_vmem_bits_univ h_S512x16 rfl) (.inl rfl))
  Prog.lift (.enqueueDma arg2 (.remote (Dev.tc (⟨k0_dev5 d0, k0_dev5_lt d0⟩ : Dev nD)) (slot1 arg3) (.dma (entry1 arg4).sem)) (.dma (entry1 arg5).sem) harg2.wordExact ((View.wordExact_bits rfl).reshape _ _) ⟨⟨rfl, Or.inl rfl⟩, trivial⟩)
  Prog.lift (.waitDma2 (entry1 arg4).sem (slot1 arg3) arg2 ((View.wordExact_bits rfl).reshape _ _) harg2.wordExact)
  Prog.lift (.waitDma2 (entry1 arg5).sem arg2 (slot1 arg3) harg2.wordExact ((View.wordExact_bits rfl).reshape _ _))
  let a1 : Vec F S512x16 .f32 ← Prog.lift (.load arg2 (Rect.unit (s := S512x16) ![0, 0] S512x16.size inb_S512x16_S512x16_0_0).toLoadRect (View.loadsAt_vmem h_S512x16))
  let b1 : Vec F S1x512x16 .f32 ← Prog.lift (.load arg3 (Rect.unit (s := S3x512x16) ![1, 0, 0] S1x512x16.size inb_S3x512x16_S1x512x16_1_0_0).toLoadRect (View.loadsAt_vmem h_S1x512x16))
  let _ : Vec F S512x16 .f32 ← Prog.lift (.load arg2 (Rect.unit (s := S512x16) ![0, 0] S512x16.size inb_S512x16_S512x16_0_0).toLoadRect (View.loadsAt_vmem h_S512x16))
  Prog.lift (.store arg2 (Rect.unit (s := S512x16) ![0, 0] S512x16.size inb_S512x16_S512x16_0_0) (MG1 a1 b1) Finset.univ (View.stores_vmem_bits_univ h_S512x16 rfl) (.inl rfl))
  Prog.lift (.enqueueDma arg2 (.remote (Dev.tc (⟨k0_dev6 d0, k0_dev6_lt d0⟩ : Dev nD)) (slot2 arg3) (.dma (entry2 arg4).sem)) (.dma (entry2 arg5).sem) harg2.wordExact ((View.wordExact_bits rfl).reshape _ _) ⟨⟨rfl, Or.inl rfl⟩, trivial⟩)
  Prog.lift (.waitDma2 (entry2 arg4).sem (slot2 arg3) arg2 ((View.wordExact_bits rfl).reshape _ _) harg2.wordExact)
  Prog.lift (.waitDma2 (entry2 arg5).sem arg2 (slot2 arg3) harg2.wordExact ((View.wordExact_bits rfl).reshape _ _))
  let a2 : Vec F S512x16 .f32 ← Prog.lift (.load arg2 (Rect.unit (s := S512x16) ![0, 0] S512x16.size inb_S512x16_S512x16_0_0).toLoadRect (View.loadsAt_vmem h_S512x16))
  let b2 : Vec F S1x512x16 .f32 ← Prog.lift (.load arg3 (Rect.unit (s := S3x512x16) ![2, 0, 0] S1x512x16.size inb_S3x512x16_S1x512x16_2_0_0).toLoadRect (View.loadsAt_vmem h_S1x512x16))
  let _ : Vec F S512x16 .f32 ← Prog.lift (.load arg2 (Rect.unit (s := S512x16) ![0, 0] S512x16.size inb_S512x16_S512x16_0_0).toLoadRect (View.loadsAt_vmem h_S512x16))
  Prog.lift (.store arg2 (Rect.unit (s := S512x16) ![0, 0] S512x16.size inb_S512x16_S512x16_0_0) (MG2 a2 b2) Finset.univ (View.stores_vmem_bits_univ h_S512x16 rfl) (.inl rfl))
  let o : Vec F S512x16 .f32 ← Prog.lift (.load arg2 (Rect.unit (s := S512x16) ![0, 0] S512x16.size inb_S512x16_S512x16_0_0).toLoadRect (View.loadsAt_vmem h_S512x16))
  let _ : Vec F S512x16 .f32 ← Prog.lift (.load arg1 (Rect.unit (s := S512x16) ![0, 0] S512x16.size inb_S512x16_S512x16_0_0).toLoadRect (View.loadsAt_vmem h_S512x16))
  Prog.lift (.store arg1 (Rect.unit (s := S512x16) ![0, 0] S512x16.size inb_S512x16_S512x16_0_0) (o) Finset.univ (View.stores_vmem_bits_univ h_S512x16 rfl) (.inl rfl))
  semSignalWord (⟨k0_dev7 d0, k0_dev7_lt d0⟩ : Dev nD) sem2.sem 1#32
  semSignalWord (⟨k0_dev8 d0, k0_dev8_lt d0⟩ : Dev nD) sem2.sem 1#32
  semSignalWord (⟨k0_dev9 d0, k0_dev9_lt d0⟩ : Dev nD) sem2.sem 1#32
  semWaitWord sem2.sem 3#32
  pure ⟨⟩

set_option maxRecDepth 65536 in
set_option maxHeartbeats 4000000 in
/-- The body is its straight line: the pure stretches between two operations are the named values, by definition. -/
theorem cc0_body_eq_flat : cc0_body (F := F) = flat (F := F) := rfl

end Cert.KernelIdeal.Val

end
-- ==== Proof.Protocol.lean ====
/- The run of the kernel on the mesh of eight devices: who signals whom, what each semaphore stands for, and what every
   buffer holds. Three exchanges follow each other; in exchange `r` device `c` sends its candidates to `peer r c`, the
   device whose number differs from `c`'s in bit `r`, and merges what it receives with its own. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.Run

open Cert.KernelIdeal Cert.KernelIdeal.Gen Cert.KernelIdeal.Val

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the exchanges' (duties named by the exchange's number) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## The mesh: the partner of exchange `r` -/

set_option backward.proofsInPublic true in
/-- The device whose number differs from `c`'s in bit `r`. -/
def peer (r : Fin 3) (c : Dev nD) : Dev nD :=
  match r with
  | 0 => ⟨c.val ^^^ 1, by revert c; decide⟩
  | 1 => ⟨c.val ^^^ 2, by revert c; decide⟩
  | 2 => ⟨c.val ^^^ 4, by revert c; decide⟩

theorem peer_peer (r : Fin 3) (c : Dev nD) : peer r (peer r c) = c := by revert r c; decide

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 1 c := by revert c; decide
theorem dev6_eq (c : Dev nD) : (⟨k0_dev6 c, k0_dev6_lt c⟩ : Dev nD) = peer 2 c := by revert c; decide
theorem dev7_eq (c : Dev nD) : (⟨k0_dev7 c, k0_dev7_lt c⟩ : Dev nD) = peer 0 c := by revert c; decide
theorem dev8_eq (c : Dev nD) : (⟨k0_dev8 c, k0_dev8_lt c⟩ : Dev nD) = peer 1 c := by revert c; decide
theorem dev9_eq (c : Dev nD) : (⟨k0_dev9 c, k0_dev9_lt c⟩ : Dev nD) = peer 2 c := by revert c; decide

/-! ## The buffers and the semaphores -/

abbrev xM : Memref sig .tc .vmem S512x4096 .f32 := Memref.whole cc0_stg0_0
abbrev oM : Memref sig .tc .vmem S512x16 .f32 := Memref.whole cc0_stg1_0
abbrev cM : Memref sig .tc .vmem S512x16 .f32 := Memref.whole cc0_scratch0
abbrev sM : Memref sig .tc .vmem S3x512x16 .f32 := Memref.whole cc0_scratch1

abbrev barS : Sem sig := (SemArray.scalar (sig.barrier 0 rfl) : Sems sig S_).sem
abbrev secS : Sem sig := (cc0_scoped0 : Sems sig S_).sem

abbrev sendS (r : Fin 3) : DmaSem sig :=
  match r with
  | 0 => (entry0 cc0_scratch2).sem
  | 1 => (entry1 cc0_scratch2).sem
  | 2 => (entry2 cc0_scratch2).sem
abbrev recvS (r : Fin 3) : DmaSem sig :=
  match r with
  | 0 => (entry0 cc0_scratch3).sem
  | 1 => (entry1 cc0_scratch3).sem
  | 2 => (entry2 cc0_scratch3).sem

/-- The eight semaphores of a device: the entry barrier, the exit barrier, the three of sending, the three of receiving. -/
abbrev csem (k : Fin 8) : SemLoc sig :=
  match k with
  | 0 => .reg barS
  | 1 => .reg secS
  | 2 => .dma (sendS 0)
  | 3 => .dma (sendS 1)
  | 4 => .dma (sendS 2)
  | 5 => .dma (recvS 0)
  | 6 => .dma (recvS 1)
  | 7 => .dma (recvS 2)
/-- All but the entry barrier are the kernel's own. -/
abbrev osem (k : Fin 7) : SemLoc sig := csem k.succ
abbrev kcell (ck : Dev nD × Fin 8) : GSem nD τ sig := ((ck.1 : Thread nD τ), csem ck.2)

/-- Which of the eight a semaphore is. -/
def kOf (s : SemLoc sig) : Option (Fin 8) := (List.finRange 8).find? fun k => decide (csem k = s)
theorem kOf_csem (k : Fin 8) : kOf (csem k) = some k := by revert k; decide

/-- What one exchange's transfer adds to a semaphore. -/
abbrev N : ℕ := (cM : Memref sig .tc .vmem S512x16 .f32).view.dmaCredit
theorem N_pos : 0 < N := View.dmaCredit_pos _ (by decide)
theorem slot0_credit : (slot0 sM).view.dmaCredit = N := rfl
theorem slot1_credit : (slot1 sM).view.dmaCredit = N := rfl
theorem slot2_credit : (slot2 sM).view.dmaCredit = N := rfl

/-! ## Contents -/

/-- The block of `x` staged on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- Candidates as the receive buffer shows them, one slot of three. -/
def lift (v : Vec F S512x16 .f32) : Vec F S1x512x16 .f32 := shapeCast S1x512x16 v (by decide)

/-- The candidates of device `c` before exchanges 0, 1, 2, and the result. -/
def K0 (c : Dev nD) : Vec F S512x16 .f32 := C0 (xstg m ρ c)
def K1 (c : Dev nD) : Vec F S512x16 .f32 := MG0 (K0 m ρ c) (lift (K0 m ρ (peer 0 c)))
def K2 (c : Dev nD) : Vec F S512x16 .f32 := MG1 (K1 m ρ c) (lift (K1 m ρ (peer 1 c)))
def K3 (c : Dev nD) : Vec F S512x16 .f32 := MG2 (K2 m ρ c) (lift (K2 m ρ (peer 2 c)))

/-- What exchange `r` sends from device `c`. -/
abbrev KC (r : Fin 3) (c : Dev nD) : Vec F S512x16 .f32 :=
  match r with
  | 0 => K0 m ρ c
  | 1 => K1 m ρ c
  | 2 => K2 m ρ c

/-- The elements of slot `r` of the receive buffer: those whose first coordinate is `r`. -/
def slotSet (r : Fin 3) : Finset S3x512x16.Idx := Finset.univ.filter fun i => (i 0).val = r.val
/-- Slot `r` of device `c`'s receive buffer. -/
def slotPts (r : Fin 3) (c : Dev nD) (f : Buf (Elt F) ((c : Thread nD τ).loc cc0_scratch1)) : sProp 𝕄 :=
  ((c : Thread nD τ).loc cc0_scratch1) ↦[slotSet r]{fullShare} f
/-- The candidates slot `r` shows. -/
def slotRead (r : Fin 3) (f : (cc0_scratch1 : Ref sig .tc).ty.Contents (Elt F)) : Vec F S512x16 .f32 :=
  match r with
  | 0 => (slot0 sM).view.read (Elt F) f
  | 1 => (slot1 sM).view.read (Elt F) f
  | 2 => (slot2 sM).view.read (Elt F) f
/-- The candidate buffer of device `c` holding `v`. -/
def candPts (c : Dev nD) (v : Buf (Elt F) (cM.view.loc (c : Thread nD τ))) : sProp 𝕄 :=
  cM.view.loc (c : Thread nD τ) ↦[cM.view.set]{fullShare} v

omit [FloatOps F] in
instance slotPts_storable (r : Fin 3) (c : Dev nD) (f) : BI.Storable (upEmb : UEmb _ 𝕄) (slotPts (F := F) r c f) := by unfold slotPts; infer_instance
omit [FloatOps F] in
instance candPts_storable (c : Dev nD) (v) : BI.Storable (upEmb : UEmb _ 𝕄) (candPts (F := F) c v) := by unfold candPts; infer_instance

omit [FloatOps F] in
theorem candPts_eq (c : Dev nD) (f : Buf (Elt F) ((c : Thread nD τ).loc cc0_scratch0)) :
    candPts c f = (((c : Thread nD τ).loc cc0_scratch0) ↦{fullShare} f : sProp 𝕄) := by unfold candPts; rw [View.set_whole]

theorem slot0_set : (slot0 sM).view.set = slotSet 0 := by
  rw [View.set_reshape]
  show ((View.whole cc0_scratch1).slice _).set = _
  rw [View.set_slice_whole]
  ext i
  rw [Rect.mem_set_unit, slotSet, Finset.mem_filter]
  refine ⟨fun h => ⟨Finset.mem_univ _, ?_⟩, fun h a => ?_⟩
  · have h0 := h 0
    simp [S3x512x16, S1x512x16] at h0 ⊢
    omega
  · have h0 := h.2
    have h1 : (i 1).val < 512 := (i 1).isLt
    have h2 : (i 2).val < 16 := (i 2).isLt
    match a with
    | ⟨0, _⟩ => simp [S3x512x16, S1x512x16] at h0 ⊢; omega
    | ⟨1, _⟩ => simpa [S3x512x16, S1x512x16] using h1
    | ⟨2, _⟩ => simp [S3x512x16, S1x512x16]; exact h2
theorem slot1_set : (slot1 sM).view.set = slotSet 1 := by
  rw [View.set_reshape]
  show ((View.whole cc0_scratch1).slice _).set = _
  rw [View.set_slice_whole]
  ext i
  rw [Rect.mem_set_unit, slotSet, Finset.mem_filter]
  refine ⟨fun h => ⟨Finset.mem_univ _, ?_⟩, fun h a => ?_⟩
  · have h0 := h 0
    simp [S3x512x16, S1x512x16] at h0 ⊢
    omega
  · have h0 := h.2
    have h1 : (i 1).val < 512 := (i 1).isLt
    have h2 : (i 2).val < 16 := (i 2).isLt
    match a with
    | ⟨0, _⟩ => simp [S3x512x16, S1x512x16] at h0 ⊢; omega
    | ⟨1, _⟩ => simpa [S3x512x16, S1x512x16] using h1
    | ⟨2, _⟩ => simp [S3x512x16, S1x512x16]; exact h2
theorem slot2_set : (slot2 sM).view.set = slotSet 2 := by
  rw [View.set_reshape]
  show ((View.whole cc0_scratch1).slice _).set = _
  rw [View.set_slice_whole]
  ext i
  rw [Rect.mem_set_unit, slotSet, Finset.mem_filter]
  refine ⟨fun h => ⟨Finset.mem_univ _, ?_⟩, fun h a => ?_⟩
  · have h0 := h 0
    simp [S3x512x16, S1x512x16] at h0 ⊢
    omega
  · have h0 := h.2
    have h1 : (i 1).val < 512 := (i 1).isLt
    have h2 : (i 2).val < 16 := (i 2).isLt
    match a with
    | ⟨0, _⟩ => simp [S3x512x16, S1x512x16] at h0 ⊢; omega
    | ⟨1, _⟩ => simpa [S3x512x16, S1x512x16] using h1
    | ⟨2, _⟩ => simp [S3x512x16, S1x512x16]; exact h2

theorem slot_disjoint (r r' : Fin 3) (h : r ≠ r') : Disjoint (slotSet r) (slotSet r') := by
  rw [Finset.disjoint_left]
  intro i hi hi'
  exact h (Fin.ext ((Finset.mem_filter.mp hi).2.symm.trans (Finset.mem_filter.mp hi').2))
theorem slot_cover : Finset.univ.biUnion slotSet = Finset.univ := by
  ext i
  simp only [Finset.mem_biUnion, Finset.mem_univ, true_and, slotSet, Finset.mem_filter, iff_true]
  exact ⟨i 0, rfl⟩

/-! ## The schedule -/

/-- The signal of exchange `r`'s partner at the entry barrier hands over its slot `r`, to be written by exchange `r`. -/
def barPay (r : Fin 3) (c : Dev nD) : sProp 𝕄 := iprop(∃ f, slotPts r (peer r c) f)
/-- A send that completed gives back the candidates. -/
def sendPay (r : Fin 3) (c : Dev nD) : sProp 𝕄 := candPts c (KC m ρ r c)
/-- A receive that completed gives slot `r` showing the partner's candidates. -/
def recvPay (r : Fin 3) (c : Dev nD) : sProp 𝕄 := iprop(∃ f, ⌜slotRead r f = KC m ρ r (peer r c)⌝ ∗ slotPts r c f)

/-- Who raises each of the eight: both barriers the three partners, the others the exchange they belong to. -/
def dutiesOf (k : Fin 8) : Finset (Fin 3) :=
  match k with
  | 0 => Finset.univ | 1 => Finset.univ
  | 2 => {0} | 3 => {1} | 4 => {2}
  | 5 => {0} | 6 => {1} | 7 => {2}
def amt (k : Fin 8) : ℕ :=
  match k with
  | 0 => 1 | 1 => 1
  | 2 => N | 3 => N | 4 => N
  | 5 => N | 6 => N | 7 => N
def pay (k : Fin 8) (c : Dev nD) (r : Fin 3) : sProp 𝕄 :=
  match k with
  | 0 => barPay r c | 1 => iprop(emp)
  | 2 => sendPay m ρ 0 c | 3 => sendPay m ρ 1 c | 4 => sendPay m ρ 2 c
  | 5 => recvPay m ρ 0 c | 6 => recvPay m ρ 1 c | 7 => recvPay m ρ 2 c

theorem amt_pos (k : Fin 8) : 0 < amt k := by
  have := N_pos
  match k with
  | 0 => exact Nat.one_pos | 1 => exact Nat.one_pos
  | 2 => exact this | 3 => exact this | 4 => exact this
  | 5 => exact this | 6 => exact this | 7 => exact this

instance pay_storable (k : Fin 8) (c : Dev nD) (r : Fin 3) : BI.Storable (upEmb : UEmb _ 𝕄) (pay m ρ k c r) := by
  unfold pay barPay sendPay recvPay
  split <;> infer_instance

/-- One round; what a semaphore's duties, amounts and payloads are goes by which of the eight it is. -/
def rd : Rounds.Schedule (GSem nD τ sig) (Fin 3) 𝕄 where
  duties g n := if n = 0 ∧ g.1.2 = .tc then (kOf g.2).elim ∅ dutiesOf else ∅
  unitless _ := False
  amount g _ _ := (kOf g.2).elim 1 amt
  payload g _ r := (kOf g.2).elim iprop(emp) fun k => pay m ρ k g.1.1 r
  amount_pos g _ _ _ := by
    cases kOf g.2 with
    | none => exact Nat.one_pos
    | some k => exact amt_pos k

instance rd_payload_storable (g : GSem nD τ sig) (n : ℕ) (r : Fin 3) : BI.Storable (upEmb : UEmb _ 𝕄) ((rd (F := F) m ρ).payload g n r) := by
  show BI.Storable upEmb ((kOf g.2).elim iprop(emp) fun k => pay m ρ k g.1.1 r)
  cases kOf g.2 with
  | none => exact (inferInstance : BI.Storable upEmb (iprop(emp) : sProp 𝕄))
  | some k => exact pay_storable m ρ k g.1.1 r

theorem duties_at (c : Dev nD) (k : Fin 8) : (rd (F := F) m ρ).duties (kcell (c, k)) 0 = dutiesOf k := by
  show (if (0 : ℕ) = 0 ∧ (c : Thread nD τ).2 = .tc then (kOf (csem k)).elim ∅ dutiesOf else ∅) = _
  rw [if_pos ⟨rfl, rfl⟩, kOf_csem]; rfl
theorem duties_later (g : GSem nD τ sig) : ∀ n, 1 ≤ n → (rd (F := F) m ρ).duties g n = ∅ := fun n hn => if_neg fun h => by omega
theorem amount_at (c : Dev nD) (k : Fin 8) (r : Fin 3) : (rd (F := F) m ρ).amount (kcell (c, k)) 0 r = amt k := by
  show (kOf (csem k)).elim 1 amt = _
  rw [kOf_csem]; rfl
theorem payload_at (c : Dev nD) (k : Fin 8) (r : Fin 3) : (rd (F := F) m ρ).payload (kcell (c, k)) 0 r = pay m ρ k c r := by
  show (kOf (csem k)).elim iprop(emp) (fun k => pay m ρ k c r) = _
  rw [kOf_csem]; rfl
theorem expect_at (c : Dev nD) (k : Fin 8) : (rd (F := F) m ρ).expect (kcell (c, k)) 0 = (dutiesOf k).card * amt k := by
  unfold Schedule.expect Schedule.amountOf
  rw [duties_at, Finset.sum_congr rfl fun d _ => amount_at m ρ c k d, Finset.sum_const, smul_eq_mul]

/-- What a whole round of a cell hands its device. -/
theorem rest_at (c : Dev nD) (k : Fin 8) :
    bigSep ((rd (F := F) m ρ).duties (kcell (c, k)) 0 \ ∅) (fun r => (rd (F := F) m ρ).payload (kcell (c, k)) 0 r)
      = bigSep (dutiesOf k) fun r => pay m ρ k c r := by
  rw [Finset.sdiff_empty, duties_at, bigSep_congr fun r _ => payload_at m ρ c k r]

theorem rest_bar (c : Dev nD) :
    bigSep ((rd (F := F) m ρ).duties (kcell (c, 0)) 0 \ ∅) (fun r => (rd (F := F) m ρ).payload (kcell (c, 0)) 0 r)
      = iprop(barPay 0 c ∗ barPay 1 c ∗ barPay 2 c) := by
  rw [rest_at]
  exact bigSep_univ_eq_bigSepL [0, 1, 2] (by decide) (by decide) fun r => pay m ρ 0 c r

/-! ## What each device owes at launch; the levels -/

/-- What device `c` still has to raise: the pairs (which of the eight, whose partner), the first first. -/
def owe (l : List (Fin 8 × Fin 3)) (c : Dev nD) : CellTallies nD τ sig Unit :=
  match l with
  | [] => 0
  | p :: l => owe l c + tallyAt (kcell (peer p.2 c, p.1)) () (amt p.1)

abbrev l9 : List (Fin 8 × Fin 3) := []
abbrev l8 : List (Fin 8 × Fin 3) := (1, 2) :: l9
abbrev l7 : List (Fin 8 × Fin 3) := (1, 1) :: l8
abbrev l6 : List (Fin 8 × Fin 3) := (1, 0) :: l7
abbrev l5 : List (Fin 8 × Fin 3) := (7, 2) :: l6
abbrev l4 : List (Fin 8 × Fin 3) := (6, 1) :: l5
abbrev l3 : List (Fin 8 × Fin 3) := (5, 0) :: l4
abbrev l2 : List (Fin 8 × Fin 3) := (0, 2) :: l3
abbrev l1 : List (Fin 8 × Fin 3) := (0, 1) :: l2
abbrev l0 : List (Fin 8 × Fin 3) := (0, 0) :: l1

def L (g : GSem nD τ sig) : Finset Unit := if g.1.2 = .tc then {()} else ∅
/-- The order of the waits: the entry barrier, the receives, the exit barrier; nobody waits for anything to send. -/
def lvk (k : Fin 8) : ℕ :=
  match k with
  | 0 => 1 | 1 => 5
  | 2 => 0 | 3 => 0 | 4 => 0
  | 5 => 2 | 6 => 3 | 7 => 4
def lv (g : GSem nD τ sig) (_ : Unit) : ℕ := (kOf g.2).elim 0 lvk

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Fin 8) : lv (kcell (c, k)) () = lvk k := by
  show (kOf (csem k)).elim 0 lvk = _
  rw [kOf_csem]; rfl

theorem owe_pos {c : Dev nD} {g : GSem nD τ sig} {u : Unit} : ∀ {l : List (Fin 8 × Fin 3)}, 0 < owe l c g u → ∃ p ∈ l, g = kcell (peer p.2 c, p.1)
  | [], h => absurd h (Nat.lt_irrefl 0)
  | p :: l, h => by
    rw [owe, Pi.add_apply, Finsupp.add_apply, tallyAt_apply] at h
    by_cases hp : g = kcell (peer p.2 c, p.1)
    · exact ⟨p, List.mem_cons_self, hp⟩
    · rw [if_neg fun h' => hp h'.1, Nat.add_zero] at h
      obtain ⟨q, hq, hg⟩ := owe_pos h
      exact ⟨q, List.mem_cons_of_mem _ hq, hg⟩

/-- A wait is allowed while everything still owed is of a higher level. -/
theorem mayWait_owe (c : Dev nD) (sm : SemLoc sig) (l : List (Fin 8 × Fin 3)) (b : ℕ) (hb : (kOf sm).elim 0 lvk ≤ b) (h : ∀ p ∈ l, b < lvk p.1) :
    (levAts L lv : sProp 𝕄) ⊢ MayWait (c : Thread nD τ) sm () (owe l c) :=
  MayOwe.of_cut (L := L) (lev := lv) b (fun p hp => by rw [Finset.mem_singleton.mp hp, L_tc]; exact Finset.mem_singleton_self _)
    (fun g u hg => by obtain ⟨p, -, rfl⟩ := owe_pos hg; exact Finset.mem_singleton_self _)
    (fun p hp => by rw [Finset.mem_singleton.mp hp]; exact hb)
    (fun g u hg => by obtain ⟨p, hp, rfl⟩ := owe_pos hg; rw [lv_at]; exact h p hp)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`. -/
def outAt (c : Dev nD) : (cc0_stg1_0 : Ref sig .tc).ty.Contents (Elt F) := K3 m ρ c

/-- The invariants of all cells, under the names they were allocated at, and that each has reached its round. -/
def records (K : Dev nD × Fin 8 → ℕ) : sProp 𝕄 :=
  iprop((bigSep Finset.univ fun ck : Dev nD × Fin 8 => cellInv ER (rd m ρ) (K ck) (kcell ck))
    ∗ bigSep Finset.univ fun ck : Dev nD × Fin 8 => reached ER (kcell ck) 0)
instance records_persistent (K : Dev nD × Fin 8 → ℕ) : BI.Persistent (records m ρ K) := by unfold records; infer_instance

theorem inv_at (K : Dev nD × Fin 8 → ℕ) (ck : Dev nD × Fin 8) : records m ρ K ⊢ cellInv ER (rd m ρ) (K ck) (kcell ck) :=
  sep_elim_left.trans (bigSep_elim (Finset.mem_univ ck))
theorem reached_at (K : Dev nD × Fin 8 → ℕ) (ck : Dev nD × Fin 8) : records m ρ K ⊢ reached ER (kcell ck) 0 :=
  sep_elim_right.trans (bigSep_elim (Finset.mem_univ ck))

/-- The four cells of exchange `r` that are raised: both barriers, its send and its receive semaphore. -/
def cellIx (p : Fin 3 × Fin 4) : Fin 8 :=
  match p.2 with
  | 0 => 0
  | 1 => 1
  | 2 => match p.1 with | 0 => 2 | 1 => 3 | 2 => 4
  | 3 => match p.1 with | 0 => 5 | 1 => 6 | 2 => 7
/-- Whose: the send semaphore one's own, the others the partner's. -/
def pdev (p : Fin 3 × Fin 4) (c : Dev nD) : Dev nD :=
  match p.2 with
  | 0 => peer p.1 c
  | 1 => peer p.1 c
  | 2 => c
  | 3 => peer p.1 c
theorem pdev_pdev (p : Fin 3 × Fin 4) (c : Dev nD) : pdev p (pdev p c) = c := by
  obtain ⟨r, j⟩ := p
  match j with
  | 0 => exact peer_peer _ _
  | 1 => exact peer_peer _ _
  | 2 => rfl
  | 3 => exact peer_peer _ _

/-- The duty tokens device `c` pays with. -/
def payToks (c : Dev nD) : sProp 𝕄 := bigSep Finset.univ fun p : Fin 3 × Fin 4 => dutyTok ER (kcell (pdev p c, cellIx p)) 0 p.1
/-- Its position at the start of each of its cells. -/
def ats (c : Dev nD) : sProp 𝕄 := bigSep Finset.univ fun k : Fin 8 => atPos ER (kcell (c, k)) 0 ∅ 0

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem ats_eq (c : Dev nD) : (ats c : sProp 𝕄)
    = iprop(atPos ER (kcell (c, 0)) 0 ∅ 0 ∗ atPos ER (kcell (c, 1)) 0 ∅ 0 ∗ atPos ER (kcell (c, 2)) 0 ∅ 0 ∗ atPos ER (kcell (c, 3)) 0 ∅ 0
        ∗ atPos ER (kcell (c, 4)) 0 ∅ 0 ∗ atPos ER (kcell (c, 5)) 0 ∅ 0 ∗ atPos ER (kcell (c, 6)) 0 ∅ 0 ∗ atPos ER (kcell (c, 7)) 0 ∅ 0) :=
  bigSep_fin8 _
omit [FloatOps F] in
theorem payToks_eq (c : Dev nD) : (payToks c : sProp 𝕄)
    = iprop(dutyTok ER (kcell (peer 0 c, 0)) 0 0 ∗ dutyTok ER (kcell (peer 1 c, 0)) 0 1 ∗ dutyTok ER (kcell (peer 2 c, 0)) 0 2
        ∗ dutyTok ER (kcell (peer 0 c, 1)) 0 0 ∗ dutyTok ER (kcell (peer 1 c, 1)) 0 1 ∗ dutyTok ER (kcell (peer 2 c, 1)) 0 2
        ∗ dutyTok ER (kcell (c, 2)) 0 0 ∗ dutyTok ER (kcell (c, 3)) 0 1 ∗ dutyTok ER (kcell (c, 4)) 0 2
        ∗ dutyTok ER (kcell (peer 0 c, 5)) 0 0 ∗ dutyTok ER (kcell (peer 1 c, 6)) 0 1 ∗ dutyTok ER (kcell (peer 2 c, 7)) 0 2) := by
  rw [payToks, bigSep_univ_eq_bigSepL [(0, 0), (1, 0), (2, 0), (0, 1), (1, 1), (2, 1), (0, 2), (1, 2), (2, 2), (0, 3), (1, 3), (2, 3)] (by decide) (by decide)]
  simp only [bigSepL_cons_cons, bigSepL_singleton]
  rfl

/-- The ghost state device `c` starts from. -/
def ghost (K : Dev nD × Fin 8 → ℕ) (c : Dev nD) : sProp 𝕄 := iprop(records m ρ K ∗ ats c ∗ payToks c)

/-- The credit of its waits on what others raise. -/
def credits (c : Dev nD) : sProp 𝕄 :=
  iprop(cred (tallyAt (kcell (c, 0)) () 3) ∗ cred (tallyAt (kcell (c, 1)) () 3)
    ∗ cred (tallyAt (kcell (c, 5)) () N) ∗ cred (tallyAt (kcell (c, 6)) () N) ∗ cred (tallyAt (kcell (c, 7)) () N))

def start (c : Dev nD) : sProp 𝕄 := iprop((∃ K, ghost m ρ K c) ∗ credits c ∗ levAts L lv)

/-- Both scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the body: the scratch buffers back and every counter at zero. -/
def Φ₁ (c : Dev nD) : sProp 𝕄 := iprop(scratch c ∗ bigSep Finset.univ fun k : Fin 8 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => owe l0 c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Run

end
-- ==== Proof.RunBody.lean ====
/- The kernel's body executed on one device, operation by operation, and the launch of the eight devices. -/
module

public import proofs.«01_k».proof.Proof.Protocol
public import Idealize.ShloMosaic.Lib.Pipeline.CollectiveSegs

@[expose] public section

noncomputable section

namespace Cert.KernelIdeal.Run

open Cert.KernelIdeal Cert.KernelIdeal.Gen Cert.KernelIdeal.Val

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads and stores of whole buffers, and of a slot -/

abbrev rx : Rect S512x4096 := Rect.unit (s := S512x4096) ![0, 0] S512x4096.size inb_S512x4096_S512x4096_0_0
abbrev rc : Rect S512x16 := Rect.unit (s := S512x16) ![0, 0] S512x16.size inb_S512x16_S512x16_0_0

theorem hz : (![0, 0] : Fin 2 → Nat) = fun _ => 0 := funext fun a => by fin_cases a <;> rfl
omit [FloatOps F] in
theorem read_x (f : (cc0_stg0_0 : Ref sig .tc).ty.Contents (Elt F)) : xM.view.readAt (Elt F) rx.toLoadRect f = f :=
  Memref.readAt_unit_zero (Elt F) cc0_stg0_0 hz _ f
omit [FloatOps F] in
theorem read_c (f : (cc0_scratch0 : Ref sig .tc).ty.Contents (Elt F)) : cM.view.readAt (Elt F) rc.toLoadRect f = f :=
  Memref.readAt_unit_zero (Elt F) cc0_scratch0 hz _ f
omit [FloatOps F] in
theorem write_c (f w : (cc0_scratch0 : Ref sig .tc).ty.Contents (Elt F)) : (cM.access rc : View sig .tc _ _ _).write (Elt F) f w Finset.univ = w :=
  Memref.write_access_unit_zero_univ (Elt F) cc0_scratch0 hz _ f w
omit [FloatOps F] in
theorem write_o (f w : (cc0_stg1_0 : Ref sig .tc).ty.Contents (Elt F)) : (oM.access rc : View sig .tc _ _ _).write (Elt F) f w Finset.univ = w :=
  Memref.write_access_unit_zero_univ (Elt F) cc0_stg1_0 hz _ f w

abbrev rs0 : Rect S3x512x16 := Rect.unit (s := S3x512x16) ![0, 0, 0] S1x512x16.size inb_S3x512x16_S1x512x16_0_0_0
theorem rs0_sub : sM.view.setOn rs0.toLoadRect.set ⊆ slotSet 0 := by
  intro i hi
  obtain ⟨j, hj, rfl⟩ := Finset.mem_map.mp hi
  rw [← (View.set_slice_whole cc0_scratch1 rs0).symm.trans ((View.set_reshape _ _).symm.trans slot0_set)]
  exact hj
omit [FloatOps F] in
theorem read_slot0 (f : (cc0_scratch1 : Ref sig .tc).ty.Contents (Elt F)) : sM.view.readAt (Elt F) rs0.toLoadRect f = lift (slotRead 0 f) := by
  show _ = lift (((sM.slice rs0 (fun _ => rfl)).squeeze S512x16 squeezes_S1x512x16_S512x16).view.read (Elt F) f)
  rw [Memref.read_squeeze_slice sM rs0 (fun _ => rfl) squeezes_S1x512x16_S512x16 (by decide) f]
  unfold lift
  exact (shapeCast_shapeCast _ _ _).symm
theorem slotPts0_eq (c : Dev nD) (f : Buf (Elt F) ((c : Thread nD τ).loc cc0_scratch1)) :
    slotPts 0 c f = ((slot0 sM).view.loc (c : Thread nD τ) ↦[(slot0 sM).view.set]{fullShare} f : sProp 𝕄) := by
  unfold slotPts; rw [slot0_set]

/-- Exchange 0: device `c` sends its candidates into the partner's slot 0. -/
theorem wp_send0 (K : Dev nD × Fin 8 → ℕ) (c n : Dev nD) (hn : n = peer 0 c) {hsc : (slot0 sM).view.ref.isScScratch = false}
    {hsrc : cM.view.WordExact} {hdst : (slot0 sM).view.WordExact}
    {hsem : DmaTarget.Typed .vmem (.dma (entry0 cc0_scratch3).sem) (.remote (Dev.tc n : Thread nD τ) (slot0 sM) (.dma (entry0 cc0_scratch2).sem) hsc)}
    {α : Type} {Q : α → sProp 𝕄} {k : PUnit → Prog (TpuEff nD τ sig (Elt F) Λ₀ .tc) α}
    (fn : Buf (Elt F) ((peer 0 c : Thread nD τ).loc cc0_scratch1)) (l : List (Fin 8 × Fin 3)) (W : Waits sig Unit) :
    iprop(records m ρ K ∗ candPts c (K0 m ρ c) ∗ slotPts 0 (peer 0 c) fn
        ∗ owes (c : Thread nD τ) (owe ((5, 0) :: l) c) W
        ∗ dutyTok ER (kcell (c, 2)) 0 0 ∗ dutyTok ER (kcell (peer 0 c, 5)) 0 0)
      ⊢ iprop(((cred (tallyAt (kcell (c, 2)) () N) ∗ owes (c : Thread nD τ) (owe l c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cM (.remote (Dev.tc n : Thread nD τ) (slot0 sM) (.dma (entry0 cc0_scratch2).sem) hsc) (.dma (entry0 cc0_scratch3).sem) hsrc hdst hsem) k) Q) := by
  subst hn
  refine BIBase.Entails.trans ?_ (Rounds.wp_send_pointsTo 𝒱₀ ER (rd m ρ) (c : Thread nD τ) none (c' := (Dev.tc (peer 0 c) : Thread nD τ)) (src := cM) (dst := slot0 sM)
    (sS := .dma (entry0 cc0_scratch2).sem) (sem := .dma (entry0 cc0_scratch3).sem) (κ₁ := K (c, 2)) (κ₂ := K (peer 0 c, 5))
    (r₁ := 0) (r₂ := 0) (d₁ := 0) (d₂ := 0) (q := fullShare) (fs := K0 m ρ c) (fd := fn)
    (by rw [show ((c : Thread nD τ), SemLoc.dma (entry0 cc0_scratch2).sem) = kcell (c, 2) from rfl, duties_at]; decide)
    (by rw [show ((Dev.tc (peer 0 c) : Thread nD τ), SemLoc.dma (entry0 cc0_scratch3).sem) = kcell (peer 0 c, 5) from rfl, duties_at]; decide)
    () () N slot0_credit (amount_at m ρ c 2 0) (amount_at m ρ (peer 0 c) 5 0) (owe l c) rfl (W := W)
    (by rw [show ((c : Thread nD τ), SemLoc.dma (entry0 cc0_scratch2).sem) = kcell (c, 2) from rfl, payload_at]; exact BI.Entails.refl _)
    (by
      rw [show ((Dev.tc (peer 0 c) : Thread nD τ), SemLoc.dma (entry0 cc0_scratch3).sem) = kcell (peer 0 c, 5) from rfl, payload_at]
      show _ ⊢ recvPay m ρ 0 (peer 0 c)
      unfold recvPay
      iintro H
      iexists _
      isplitr
      rotate_left
      · rw [slotPts0_eq]; iexact H
      · ipureintro
        rw [peer_peer]
        show (slot0 sM).view.read (Elt F) ((slot0 sM).view.write (Elt F) fn (cM.view.read (Elt F) (K0 m ρ c)) Finset.univ) = K0 m ρ c
        rw [View.read_write_univ]
        exact View.read_whole _ _))
  unfold candPts
  rw [slotPts0_eq]
  iintro ⟨#HR, Hc, Hs, HO, Ht1, Ht2⟩
  isplitr; · iapply (inv_at m ρ K (c, 2)); iexact HR
  isplitr; · iapply (inv_at m ρ K (peer 0 c, 5)); iexact HR
  isplitl [Hc]; · iexact Hc
  isplitl [Hs]; · iexact Hs
  isplitl [HO]; · iexact HO
  isplitl [Ht1]; · iexact Ht1
  isplitr; · iapply (reached_at m ρ K (c, 2)); iexact HR
  isplitl [Ht2]; · iexact Ht2
  iapply (reached_at m ρ K (peer 0 c, 5)); iexact HR

abbrev rs1 : Rect S3x512x16 := Rect.unit (s := S3x512x16) ![1, 0, 0] S1x512x16.size inb_S3x512x16_S1x512x16_1_0_0
theorem rs1_sub : sM.view.setOn rs1.toLoadRect.set ⊆ slotSet 1 := by
  intro i hi
  obtain ⟨j, hj, rfl⟩ := Finset.mem_map.mp hi
  rw [← (View.set_slice_whole cc0_scratch1 rs1).symm.trans ((View.set_reshape _ _).symm.trans slot1_set)]
  exact hj
omit [FloatOps F] in
theorem read_slot1 (f : (cc0_scratch1 : Ref sig .tc).ty.Contents (Elt F)) : sM.view.readAt (Elt F) rs1.toLoadRect f = lift (slotRead 1 f) := by
  show _ = lift (((sM.slice rs1 (fun _ => rfl)).squeeze S512x16 squeezes_S1x512x16_S512x16).view.read (Elt F) f)
  rw [Memref.read_squeeze_slice sM rs1 (fun _ => rfl) squeezes_S1x512x16_S512x16 (by decide) f]
  unfold lift
  exact (shapeCast_shapeCast _ _ _).symm
theorem slotPts1_eq (c : Dev nD) (f : Buf (Elt F) ((c : Thread nD τ).loc cc0_scratch1)) :
    slotPts 1 c f = ((slot1 sM).view.loc (c : Thread nD τ) ↦[(slot1 sM).view.set]{fullShare} f : sProp 𝕄) := by
  unfold slotPts; rw [slot1_set]

/-- Exchange 1: device `c` sends its candidates into the partner's slot 1. -/
theorem wp_send1 (K : Dev nD × Fin 8 → ℕ) (c n : Dev nD) (hn : n = peer 1 c) {hsc : (slot1 sM).view.ref.isScScratch = false}
    {hsrc : cM.view.WordExact} {hdst : (slot1 sM).view.WordExact}
    {hsem : DmaTarget.Typed .vmem (.dma (entry1 cc0_scratch3).sem) (.remote (Dev.tc n : Thread nD τ) (slot1 sM) (.dma (entry1 cc0_scratch2).sem) hsc)}
    {α : Type} {Q : α → sProp 𝕄} {k : PUnit → Prog (TpuEff nD τ sig (Elt F) Λ₀ .tc) α}
    (fn : Buf (Elt F) ((peer 1 c : Thread nD τ).loc cc0_scratch1)) (l : List (Fin 8 × Fin 3)) (W : Waits sig Unit) :
    iprop(records m ρ K ∗ candPts c (K1 m ρ c) ∗ slotPts 1 (peer 1 c) fn
        ∗ owes (c : Thread nD τ) (owe ((6, 1) :: l) c) W
        ∗ dutyTok ER (kcell (c, 3)) 0 1 ∗ dutyTok ER (kcell (peer 1 c, 6)) 0 1)
      ⊢ iprop(((cred (tallyAt (kcell (c, 3)) () N) ∗ owes (c : Thread nD τ) (owe l c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cM (.remote (Dev.tc n : Thread nD τ) (slot1 sM) (.dma (entry1 cc0_scratch2).sem) hsc) (.dma (entry1 cc0_scratch3).sem) hsrc hdst hsem) k) Q) := by
  subst hn
  refine BIBase.Entails.trans ?_ (Rounds.wp_send_pointsTo 𝒱₀ ER (rd m ρ) (c : Thread nD τ) none (c' := (Dev.tc (peer 1 c) : Thread nD τ)) (src := cM) (dst := slot1 sM)
    (sS := .dma (entry1 cc0_scratch2).sem) (sem := .dma (entry1 cc0_scratch3).sem) (κ₁ := K (c, 3)) (κ₂ := K (peer 1 c, 6))
    (r₁ := 0) (r₂ := 0) (d₁ := 1) (d₂ := 1) (q := fullShare) (fs := K1 m ρ c) (fd := fn)
    (by rw [show ((c : Thread nD τ), SemLoc.dma (entry1 cc0_scratch2).sem) = kcell (c, 3) from rfl, duties_at]; decide)
    (by rw [show ((Dev.tc (peer 1 c) : Thread nD τ), SemLoc.dma (entry1 cc0_scratch3).sem) = kcell (peer 1 c, 6) from rfl, duties_at]; decide)
    () () N slot1_credit (amount_at m ρ c 3 1) (amount_at m ρ (peer 1 c) 6 1) (owe l c) rfl (W := W)
    (by rw [show ((c : Thread nD τ), SemLoc.dma (entry1 cc0_scratch2).sem) = kcell (c, 3) from rfl, payload_at]; exact BI.Entails.refl _)
    (by
      rw [show ((Dev.tc (peer 1 c) : Thread nD τ), SemLoc.dma (entry1 cc0_scratch3).sem) = kcell (peer 1 c, 6) from rfl, payload_at]
      show _ ⊢ recvPay m ρ 1 (peer 1 c)
      unfold recvPay
      iintro H
      iexists _
      isplitr
      rotate_left
      · rw [slotPts1_eq]; iexact H
      · ipureintro
        rw [peer_peer]
        show (slot1 sM).view.read (Elt F) ((slot1 sM).view.write (Elt F) fn (cM.view.read (Elt F) (K1 m ρ c)) Finset.univ) = K1 m ρ c
        rw [View.read_write_univ]
        exact View.read_whole _ _))
  unfold candPts
  rw [slotPts1_eq]
  iintro ⟨#HR, Hc, Hs, HO, Ht1, Ht2⟩
  isplitr; · iapply (inv_at m ρ K (c, 3)); iexact HR
  isplitr; · iapply (inv_at m ρ K (peer 1 c, 6)); iexact HR
  isplitl [Hc]; · iexact Hc
  isplitl [Hs]; · iexact Hs
  isplitl [HO]; · iexact HO
  isplitl [Ht1]; · iexact Ht1
  isplitr; · iapply (reached_at m ρ K (c, 3)); iexact HR
  isplitl [Ht2]; · iexact Ht2
  iapply (reached_at m ρ K (peer 1 c, 6)); iexact HR

abbrev rs2 : Rect S3x512x16 := Rect.unit (s := S3x512x16) ![2, 0, 0] S1x512x16.size inb_S3x512x16_S1x512x16_2_0_0
theorem rs2_sub : sM.view.setOn rs2.toLoadRect.set ⊆ slotSet 2 := by
  intro i hi
  obtain ⟨j, hj, rfl⟩ := Finset.mem_map.mp hi
  rw [← (View.set_slice_whole cc0_scratch1 rs2).symm.trans ((View.set_reshape _ _).symm.trans slot2_set)]
  exact hj
omit [FloatOps F] in
theorem read_slot2 (f : (cc0_scratch1 : Ref sig .tc).ty.Contents (Elt F)) : sM.view.readAt (Elt F) rs2.toLoadRect f = lift (slotRead 2 f) := by
  show _ = lift (((sM.slice rs2 (fun _ => rfl)).squeeze S512x16 squeezes_S1x512x16_S512x16).view.read (Elt F) f)
  rw [Memref.read_squeeze_slice sM rs2 (fun _ => rfl) squeezes_S1x512x16_S512x16 (by decide) f]
  unfold lift
  exact (shapeCast_shapeCast _ _ _).symm
theorem slotPts2_eq (c : Dev nD) (f : Buf (Elt F) ((c : Thread nD τ).loc cc0_scratch1)) :
    slotPts 2 c f = ((slot2 sM).view.loc (c : Thread nD τ) ↦[(slot2 sM).view.set]{fullShare} f : sProp 𝕄) := by
  unfold slotPts; rw [slot2_set]

/-- Exchange 2: device `c` sends its candidates into the partner's slot 2. -/
theorem wp_send2 (K : Dev nD × Fin 8 → ℕ) (c n : Dev nD) (hn : n = peer 2 c) {hsc : (slot2 sM).view.ref.isScScratch = false}
    {hsrc : cM.view.WordExact} {hdst : (slot2 sM).view.WordExact}
    {hsem : DmaTarget.Typed .vmem (.dma (entry2 cc0_scratch3).sem) (.remote (Dev.tc n : Thread nD τ) (slot2 sM) (.dma (entry2 cc0_scratch2).sem) hsc)}
    {α : Type} {Q : α → sProp 𝕄} {k : PUnit → Prog (TpuEff nD τ sig (Elt F) Λ₀ .tc) α}
    (fn : Buf (Elt F) ((peer 2 c : Thread nD τ).loc cc0_scratch1)) (l : List (Fin 8 × Fin 3)) (W : Waits sig Unit) :
    iprop(records m ρ K ∗ candPts c (K2 m ρ c) ∗ slotPts 2 (peer 2 c) fn
        ∗ owes (c : Thread nD τ) (owe ((7, 2) :: l) c) W
        ∗ dutyTok ER (kcell (c, 4)) 0 2 ∗ dutyTok ER (kcell (peer 2 c, 7)) 0 2)
      ⊢ iprop(((cred (tallyAt (kcell (c, 4)) () N) ∗ owes (c : Thread nD τ) (owe l c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cM (.remote (Dev.tc n : Thread nD τ) (slot2 sM) (.dma (entry2 cc0_scratch2).sem) hsc) (.dma (entry2 cc0_scratch3).sem) hsrc hdst hsem) k) Q) := by
  subst hn
  refine BIBase.Entails.trans ?_ (Rounds.wp_send_pointsTo 𝒱₀ ER (rd m ρ) (c : Thread nD τ) none (c' := (Dev.tc (peer 2 c) : Thread nD τ)) (src := cM) (dst := slot2 sM)
    (sS := .dma (entry2 cc0_scratch2).sem) (sem := .dma (entry2 cc0_scratch3).sem) (κ₁ := K (c, 4)) (κ₂ := K (peer 2 c, 7))
    (r₁ := 0) (r₂ := 0) (d₁ := 2) (d₂ := 2) (q := fullShare) (fs := K2 m ρ c) (fd := fn)
    (by rw [show ((c : Thread nD τ), SemLoc.dma (entry2 cc0_scratch2).sem) = kcell (c, 4) from rfl, duties_at]; decide)
    (by rw [show ((Dev.tc (peer 2 c) : Thread nD τ), SemLoc.dma (entry2 cc0_scratch3).sem) = kcell (peer 2 c, 7) from rfl, duties_at]; decide)
    () () N slot2_credit (amount_at m ρ c 4 2) (amount_at m ρ (peer 2 c) 7 2) (owe l c) rfl (W := W)
    (by rw [show ((c : Thread nD τ), SemLoc.dma (entry2 cc0_scratch2).sem) = kcell (c, 4) from rfl, payload_at]; exact BI.Entails.refl _)
    (by
      rw [show ((Dev.tc (peer 2 c) : Thread nD τ), SemLoc.dma (entry2 cc0_scratch3).sem) = kcell (peer 2 c, 7) from rfl, payload_at]
      show _ ⊢ recvPay m ρ 2 (peer 2 c)
      unfold recvPay
      iintro H
      iexists _
      isplitr
      rotate_left
      · rw [slotPts2_eq]; iexact H
      · ipureintro
        rw [peer_peer]
        show (slot2 sM).view.read (Elt F) ((slot2 sM).view.write (Elt F) fn (cM.view.read (Elt F) (K2 m ρ c)) Finset.univ) = K2 m ρ c
        rw [View.read_write_univ]
        exact View.read_whole _ _))
  unfold candPts
  rw [slotPts2_eq]
  iintro ⟨#HR, Hc, Hs, HO, Ht1, Ht2⟩
  isplitr; · iapply (inv_at m ρ K (c, 4)); iexact HR
  isplitr; · iapply (inv_at m ρ K (peer 2 c, 7)); iexact HR
  isplitl [Hc]; · iexact Hc
  isplitl [Hs]; · iexact Hs
  isplitl [HO]; · iexact HO
  isplitl [Ht1]; · iexact Ht1
  isplitr; · iapply (reached_at m ρ K (c, 4)); iexact HR
  isplitl [Ht2]; · iexact Ht2
  iapply (reached_at m ρ K (peer 2 c, 7)); iexact HR

/-! ## The body -/

section Body

variable (K : Dev nD × Fin 8 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

theorem slots_split (c : Dev nD) (f : Buf (Elt F) ((c : Thread nD τ).loc cc0_scratch1)) :
    (((c : Thread nD τ).loc cc0_scratch1) ↦{fullShare} f : sProp 𝕄) ⊢ iprop(slotPts 0 c f ∗ slotPts 1 c f ∗ slotPts 2 c f) := by
  rw [Ring.pointsTo_blocks (ℓ := (c : Thread nD τ).loc cc0_scratch1) slotSet slot_disjoint slot_cover f, bigSep_fin3]
  exact BI.Entails.refl _
theorem slots_join (c : Dev nD) (f₀ : Buf (Elt F) ((c : Thread nD τ).loc cc0_scratch1)) :
    iprop((∃ f, slotPts 0 c f) ∗ (∃ f, slotPts 1 c f) ∗ (∃ f, slotPts 2 c f))
      ⊢ (iprop(∃ f : Buf (Elt F) ((c : Thread nD τ).loc cc0_scratch1), ((c : Thread nD τ).loc cc0_scratch1) ↦{fullShare} f) : sProp 𝕄) := by
  refine BIBase.Entails.trans ?_ (Ring.pointsTo_blocks_join_exists (ℓ := (c : Thread nD τ).loc cc0_scratch1) slotSet slot_disjoint slot_cover f₀)
  rw [bigSep_fin3]
  exact BI.Entails.refl _

theorem slotPts_out (r : Fin 3) (c : Dev nD) (f : Buf (Elt F) ((c : Thread nD τ).loc cc0_scratch1)) :
    slotPts r c f ⊢ (((c : Thread nD τ).loc cc0_scratch1) ↦[slotSet r]{fullShare} f : sProp 𝕄) := by
  exact BI.Entails.refl _
theorem cand_of_store (c : Dev nD) (v w : (cc0_scratch0 : Ref sig .tc).ty.Contents (Elt F)) (h : v = w) :
    (((cM.access rc).loc (c : Thread nD τ)) ↦{fullShare} v : sProp 𝕄) ⊢ candPts c w := by
  subst h
  exact Entails.of_eq (candPts_eq c v).symm

set_option maxHeartbeats 4000000 in
/-- The body, one rule per operation in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scoped0) Kt := by
  rw [cc0_body_eq_flat]; unfold flat
  simp only [semSignalWord, semWaitWord, Prog.lift, Prog.bind_op, Prog.bind_ret, Prog.pure_eq_ret, wp_deviceId]
  unfold bodyPre ghost credits scratch
  rw [ats_eq, payToks_eq]
  iintro ⟨⟨⟨⟨#HR, ⟨Ha0, Ha1, Ha2, Ha3, Ha4, Ha5, Ha6, Ha7⟩, ⟨Tb0, Tb1, Tb2, Te0, Te1, Te2, Ts0, Ts1, Ts2, Tr0, Tr1, Tr2⟩⟩,
      ⟨Hcb, Hce, Hcr0, Hcr1, Hcr2⟩, #Hlev, ⟨⟨%fc, Hc⟩, ⟨%fs, Hs⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owe l0 c from rfl]
  simp only [dev1_eq c, dev2_eq c, dev3_eq c, dev7_eq c, dev8_eq c, dev9_eq c]
  ihave Hs := (slots_split c fs) $$ Hs
  icases Hs with ⟨Hs0, Hs1, Hs2⟩
  -- the signal to the partner of exchange 0 at the entry barrier
  iapply (Rounds.wp_signal 𝒱₀ ER (rd m ρ) (c : Thread nD τ) none (dst := (peer 0 c : Thread nD τ)) (sem := barS) (κ := K (peer 0 c, 0))
      (r := 0) (d := 0) (by rw [show ((peer 0 c : Thread nD τ), SemLoc.reg barS) = kcell (peer 0 c, 0) from rfl, duties_at]; decide)
      ((amount_at m ρ (peer 0 c) 0 0).trans (by decide)) () (owe l1 c) rfl)
    $$ [HO Tb0 Hs0]
  · isplitr; · iapply (inv_at m ρ K (peer 0 c, 0)); iexact HR
    isplitl [HO]; · iexact HO
    isplitl [Tb0]; · iexact Tb0
    isplitl [Hs0]
    · rw [show (rd m ρ).payload ((peer 0 c : Thread nD τ), SemLoc.reg barS) 0 0 = barPay 0 (peer 0 c) from payload_at m ρ _ 0 0]; unfold barPay; rw [peer_peer]; iexists fs; iexact Hs0
    iapply (reached_at m ρ K (peer 0 c, 0)); iexact HR
  iintro HO
  -- the signal to the partner of exchange 1 at the entry barrier
  iapply (Rounds.wp_signal 𝒱₀ ER (rd m ρ) (c : Thread nD τ) none (dst := (peer 1 c : Thread nD τ)) (sem := barS) (κ := K (peer 1 c, 0))
      (r := 0) (d := 1) (by rw [show ((peer 1 c : Thread nD τ), SemLoc.reg barS) = kcell (peer 1 c, 0) from rfl, duties_at]; decide)
      ((amount_at m ρ (peer 1 c) 0 1).trans (by decide)) () (owe l2 c) rfl)
    $$ [HO Tb1 Hs1]
  · isplitr; · iapply (inv_at m ρ K (peer 1 c, 0)); iexact HR
    isplitl [HO]; · iexact HO
    isplitl [Tb1]; · iexact Tb1
    isplitl [Hs1]
    · rw [show (rd m ρ).payload ((peer 1 c : Thread nD τ), SemLoc.reg barS) 0 1 = barPay 1 (peer 1 c) from payload_at m ρ _ 0 1]; unfold barPay; rw [peer_peer]; iexists fs; iexact Hs1
    iapply (reached_at m ρ K (peer 1 c, 0)); iexact HR
  iintro HO
  -- the signal to the partner of exchange 2 at the entry barrier
  iapply (Rounds.wp_signal 𝒱₀ ER (rd m ρ) (c : Thread nD τ) none (dst := (peer 2 c : Thread nD τ)) (sem := barS) (κ := K (peer 2 c, 0))
      (r := 0) (d := 2) (by rw [show ((peer 2 c : Thread nD τ), SemLoc.reg barS) = kcell (peer 2 c, 0) from rfl, duties_at]; decide)
      ((amount_at m ρ (peer 2 c) 0 2).trans (by decide)) () (owe l3 c) rfl)
    $$ [HO Tb2 Hs2]
  · isplitr; · iapply (inv_at m ρ K (peer 2 c, 0)); iexact HR
    isplitl [HO]; · iexact HO
    isplitl [Tb2]; · iexact Tb2
    isplitl [Hs2]
    · rw [show (rd m ρ).payload ((peer 2 c : Thread nD τ), SemLoc.reg barS) 0 2 = barPay 2 (peer 2 c) from payload_at m ρ _ 0 2]; unfold barPay; rw [peer_peer]; iexists fs; iexact Hs2
    iapply (reached_at m ρ K (peer 2 c, 0)); iexact HR
  iintro HO
  -- the entry barrier: the partners' slots come with it
  iapply (Rounds.wp_wait_rest_token 𝒱₀ ER (rd m ρ) (c : Thread nD τ) none (sm := csem 0) (κ := K (c, 0))
      (wpE_semWait_eq 𝒱₀ (c : Thread nD τ) none Set.univ) (Set.mem_univ _) () (O := owe l3 c) (R := 0) (m := 0) (T := ∅)
      (by rw [show ((c : Thread nD τ), csem 0) = kcell (c, 0) from rfl, expect_at]; decide)) $$ [Hcb HO Ha0]
  · isplitr; · iapply (inv_at m ρ K (c, 0)); iexact HR
    isplitl [Hcb]; · iexact Hcb
    isplitl [HO]; · iexact HO
    isplitr; · iapply (mayWait_owe c (csem 0) l3 1 (by decide) (by decide)); iexact Hlev
    iexact Ha0
  iintro ⟨HO, Ha0, -, Hpay⟩
  ihave Hp := (Entails.of_eq (rest_bar m ρ c)) $$ Hpay
  unfold barPay
  icases Hp with ⟨⟨%p0, Hp0⟩, ⟨%p1, Hp1⟩, ⟨%p2, Hp2⟩⟩
  imod (Rounds.cell_close ER (rd m ρ) (Set.mem_univ (K (c, 0))) (fun h => h) (R := 0 + 1) (duties_later m ρ (kcell (c, 0)))) $$ [Ha0] with Hz0
  · isplitr; · iapply (inv_at m ρ K (c, 0)); iexact HR
    iexact Ha0
  iapply (wp_load 𝒱₀ (c : Thread nD τ) none Set.univ (m := xM) (Finset.subset_univ _)) $$ Hx; iintro Hx
  rw [read_x]
  -- exchange 0
  iapply (wp_load 𝒱₀ (c : Thread nD τ) none Set.univ (m := cM) (Finset.subset_univ _)) $$ Hc; iintro Hc
  iapply (wp_store 𝒱₀ (c : Thread nD τ) none Set.univ (m := cM) (r := rc) (Mk := Finset.univ) (Finset.subset_univ _)) $$ Hc; iintro Hc
  rw [write_c]
  ihave Hc := (cand_of_store c (C0 (xstg m ρ c)) (K0 m ρ c) rfl) $$ Hc
  iapply (wp_send0 m ρ K c _ (dev4_eq c) p0 l4 _) $$ [Hc Hp0 HO Ts0 Tr0]
  · isplitr; · iexact HR
    isplitl [Hc]; · iexact Hc
    isplitl [Hp0]; · iexact Hp0
    isplitl [HO]; · iexact HO
    isplitl [Ts0]; · iexact Ts0
    iexact Tr0
  iintro ⟨Hcs, HO⟩
  iapply (Rounds.wp_wait_rest_token 𝒱₀ ER (rd m ρ) (c : Thread nD τ) none (sm := csem 2) (κ := K (c, 2))
      (wpE_waitDma2_eq 𝒱₀ (c : Thread nD τ) none Set.univ) (Set.mem_univ _) () (O := owe l4 c) (R := 0) (m := 0) (T := ∅)
      ((Nat.zero_add _).trans (by rw [show ((c : Thread nD τ), csem 2) = kcell (c, 2) from rfl, expect_at]; exact (Nat.one_mul N).symm))) $$ [Hcs HO Ha2]
  · isplitr; · iapply (inv_at m ρ K (c, 2)); iexact HR
    isplitl [Hcs]; · iexact Hcs
    isplitl [HO]; · iexact HO
    isplitr; · iapply (mayWait_owe c (csem 2) l4 0 (by decide) (by decide)); iexact Hlev
    iexact Ha2
  iintro ⟨HO, Ha2, -, Hpay⟩
  ihave Hc := (show _ ⊢ (((c : Thread nD τ).loc cc0_scratch0) ↦{fullShare} (K0 m ρ c) : sProp 𝕄) from Entails.of_eq ((rest_at m ρ c 2).trans (bigSep_singleton.trans (candPts_eq c _)))) $$ Hpay
  imod (Rounds.cell_close ER (rd m ρ) (Set.mem_univ (K (c, 2))) (fun h => h) (R := 0 + 1) (duties_later m ρ (kcell (c, 2)))) $$ [Ha2] with Hz2
  · isplitr; · iapply (inv_at m ρ K (c, 2)); iexact HR
    iexact Ha2
  iapply (Rounds.wp_wait_rest_token 𝒱₀ ER (rd m ρ) (c : Thread nD τ) none (sm := csem 5) (κ := K (c, 5))
      (wpE_waitDma2_eq 𝒱₀ (c : Thread nD τ) none Set.univ) (Set.mem_univ _) () (O := owe l4 c) (R := 0) (m := 0) (T := ∅)
      ((Nat.zero_add _).trans (by rw [show ((c : Thread nD τ), csem 5) = kcell (c, 5) from rfl, expect_at]; exact (Nat.one_mul N).symm))) $$ [Hcr0 HO Ha5]
  · isplitr; · iapply (inv_at m ρ K (c, 5)); iexact HR
    isplitl [Hcr0]; · iexact Hcr0
    isplitl [HO]; · iexact HO
    isplitr; · iapply (mayWait_owe c (csem 5) l4 2 (by decide) (by decide)); iexact Hlev
    iexact Ha5
  iintro ⟨HO, Ha5, -, Hpay⟩
  ihave Hp := (show _ ⊢ recvPay m ρ 0 c from Entails.of_eq ((rest_at m ρ c 5).trans bigSep_singleton)) $$ Hpay
  unfold recvPay
  icases Hp with ⟨%f0, %hf0, Hs0⟩
  imod (Rounds.cell_close ER (rd m ρ) (Set.mem_univ (K (c, 5))) (fun h => h) (R := 0 + 1) (duties_later m ρ (kcell (c, 5)))) $$ [Ha5] with Hz5
  · isplitr; · iapply (inv_at m ρ K (c, 5)); iexact HR
    iexact Ha5
  iapply (wp_load 𝒱₀ (c : Thread nD τ) none Set.univ (m := cM) (Finset.subset_univ _)) $$ Hc; iintro Hc
  rw [read_c]
  ihave Hs0 := (slotPts_out 0 c f0) $$ Hs0
  iapply (wp_load 𝒱₀ (c : Thread nD τ) none Set.univ (m := sM) rs0_sub) $$ Hs0; iintro Hs0
  rw [read_slot0, show slotRead 0 f0 = K0 m ρ (peer 0 c) from hf0]
  -- exchange 1
  iapply (wp_load 𝒱₀ (c : Thread nD τ) none Set.univ (m := cM) (Finset.subset_univ _)) $$ Hc; iintro Hc
  iapply (wp_store 𝒱₀ (c : Thread nD τ) none Set.univ (m := cM) (r := rc) (Mk := Finset.univ) (Finset.subset_univ _)) $$ Hc; iintro Hc
  rw [write_c]
  ihave Hc := (cand_of_store c (MG0 (K0 m ρ c) (lift (K0 m ρ (peer 0 c)))) (K1 m ρ c) rfl) $$ Hc
  iapply (wp_send1 m ρ K c _ (dev5_eq c) p1 l5 _) $$ [Hc Hp1 HO Ts1 Tr1]
  · isplitr; · iexact HR
    isplitl [Hc]; · iexact Hc
    isplitl [Hp1]; · iexact Hp1
    isplitl [HO]; · iexact HO
    isplitl [Ts1]; · iexact Ts1
    iexact Tr1
  iintro ⟨Hcs, HO⟩
  iapply (Rounds.wp_wait_rest_token 𝒱₀ ER (rd m ρ) (c : Thread nD τ) none (sm := csem 3) (κ := K (c, 3))
      (wpE_waitDma2_eq 𝒱₀ (c : Thread nD τ) none Set.univ) (Set.mem_univ _) () (O := owe l5 c) (R := 0) (m := 0) (T := ∅)
      ((Nat.zero_add _).trans (by rw [show ((c : Thread nD τ), csem 3) = kcell (c, 3) from rfl, expect_at]; exact (Nat.one_mul N).symm))) $$ [Hcs HO Ha3]
  · isplitr; · iapply (inv_at m ρ K (c, 3)); iexact HR
    isplitl [Hcs]; · iexact Hcs
    isplitl [HO]; · iexact HO
    isplitr; · iapply (mayWait_owe c (csem 3) l5 0 (by decide) (by decide)); iexact Hlev
    iexact Ha3
  iintro ⟨HO, Ha3, -, Hpay⟩
  ihave Hc := (show _ ⊢ (((c : Thread nD τ).loc cc0_scratch0) ↦{fullShare} (K1 m ρ c) : sProp 𝕄) from Entails.of_eq ((rest_at m ρ c 3).trans (bigSep_singleton.trans (candPts_eq c _)))) $$ Hpay
  imod (Rounds.cell_close ER (rd m ρ) (Set.mem_univ (K (c, 3))) (fun h => h) (R := 0 + 1) (duties_later m ρ (kcell (c, 3)))) $$ [Ha3] with Hz3
  · isplitr; · iapply (inv_at m ρ K (c, 3)); iexact HR
    iexact Ha3
  iapply (Rounds.wp_wait_rest_token 𝒱₀ ER (rd m ρ) (c : Thread nD τ) none (sm := csem 6) (κ := K (c, 6))
      (wpE_waitDma2_eq 𝒱₀ (c : Thread nD τ) none Set.univ) (Set.mem_univ _) () (O := owe l5 c) (R := 0) (m := 0) (T := ∅)
      ((Nat.zero_add _).trans (by rw [show ((c : Thread nD τ), csem 6) = kcell (c, 6) from rfl, expect_at]; exact (Nat.one_mul N).symm))) $$ [Hcr1 HO Ha6]
  · isplitr; · iapply (inv_at m ρ K (c, 6)); iexact HR
    isplitl [Hcr1]; · iexact Hcr1
    isplitl [HO]; · iexact HO
    isplitr; · iapply (mayWait_owe c (csem 6) l5 3 (by decide) (by decide)); iexact Hlev
    iexact Ha6
  iintro ⟨HO, Ha6, -, Hpay⟩
  ihave Hp := (show _ ⊢ recvPay m ρ 1 c from Entails.of_eq ((rest_at m ρ c 6).trans bigSep_singleton)) $$ Hpay
  unfold recvPay
  icases Hp with ⟨%f1, %hf1, Hs1⟩
  imod (Rounds.cell_close ER (rd m ρ) (Set.mem_univ (K (c, 6))) (fun h => h) (R := 0 + 1) (duties_later m ρ (kcell (c, 6)))) $$ [Ha6] with Hz6
  · isplitr; · iapply (inv_at m ρ K (c, 6)); iexact HR
    iexact Ha6
  iapply (wp_load 𝒱₀ (c : Thread nD τ) none Set.univ (m := cM) (Finset.subset_univ _)) $$ Hc; iintro Hc
  rw [read_c]
  ihave Hs1 := (slotPts_out 1 c f1) $$ Hs1
  iapply (wp_load 𝒱₀ (c : Thread nD τ) none Set.univ (m := sM) rs1_sub) $$ Hs1; iintro Hs1
  rw [read_slot1, show slotRead 1 f1 = K1 m ρ (peer 1 c) from hf1]
  -- exchange 2
  iapply (wp_load 𝒱₀ (c : Thread nD τ) none Set.univ (m := cM) (Finset.subset_univ _)) $$ Hc; iintro Hc
  iapply (wp_store 𝒱₀ (c : Thread nD τ) none Set.univ (m := cM) (r := rc) (Mk := Finset.univ) (Finset.subset_univ _)) $$ Hc; iintro Hc
  rw [write_c]
  ihave Hc := (cand_of_store c (MG1 (K1 m ρ c) (lift (K1 m ρ (peer 1 c)))) (K2 m ρ c) rfl) $$ Hc
  iapply (wp_send2 m ρ K c _ (dev6_eq c) p2 l6 _) $$ [Hc Hp2 HO Ts2 Tr2]
  · isplitr; · iexact HR
    isplitl [Hc]; · iexact Hc
    isplitl [Hp2]; · iexact Hp2
    isplitl [HO]; · iexact HO
    isplitl [Ts2]; · iexact Ts2
    iexact Tr2
  iintro ⟨Hcs, HO⟩
  iapply (Rounds.wp_wait_rest_token 𝒱₀ ER (rd m ρ) (c : Thread nD τ) none (sm := csem 4) (κ := K (c, 4))
      (wpE_waitDma2_eq 𝒱₀ (c : Thread nD τ) none Set.univ) (Set.mem_univ _) () (O := owe l6 c) (R := 0) (m := 0) (T := ∅)
      ((Nat.zero_add _).trans (by rw [show ((c : Thread nD τ), csem 4) = kcell (c, 4) from rfl, expect_at]; exact (Nat.one_mul N).symm))) $$ [Hcs HO Ha4]
  · isplitr; · iapply (inv_at m ρ K (c, 4)); iexact HR
    isplitl [Hcs]; · iexact Hcs
    isplitl [HO]; · iexact HO
    isplitr; · iapply (mayWait_owe c (csem 4) l6 0 (by decide) (by decide)); iexact Hlev
    iexact Ha4
  iintro ⟨HO, Ha4, -, Hpay⟩
  ihave Hc := (show _ ⊢ (((c : Thread nD τ).loc cc0_scratch0) ↦{fullShare} (K2 m ρ c) : sProp 𝕄) from Entails.of_eq ((rest_at m ρ c 4).trans (bigSep_singleton.trans (candPts_eq c _)))) $$ Hpay
  imod (Rounds.cell_close ER (rd m ρ) (Set.mem_univ (K (c, 4))) (fun h => h) (R := 0 + 1) (duties_later m ρ (kcell (c, 4)))) $$ [Ha4] with Hz4
  · isplitr; · iapply (inv_at m ρ K (c, 4)); iexact HR
    iexact Ha4
  iapply (Rounds.wp_wait_rest_token 𝒱₀ ER (rd m ρ) (c : Thread nD τ) none (sm := csem 7) (κ := K (c, 7))
      (wpE_waitDma2_eq 𝒱₀ (c : Thread nD τ) none Set.univ) (Set.mem_univ _) () (O := owe l6 c) (R := 0) (m := 0) (T := ∅)
      ((Nat.zero_add _).trans (by rw [show ((c : Thread nD τ), csem 7) = kcell (c, 7) from rfl, expect_at]; exact (Nat.one_mul N).symm))) $$ [Hcr2 HO Ha7]
  · isplitr; · iapply (inv_at m ρ K (c, 7)); iexact HR
    isplitl [Hcr2]; · iexact Hcr2
    isplitl [HO]; · iexact HO
    isplitr; · iapply (mayWait_owe c (csem 7) l6 4 (by decide) (by decide)); iexact Hlev
    iexact Ha7
  iintro ⟨HO, Ha7, -, Hpay⟩
  ihave Hp := (show _ ⊢ recvPay m ρ 2 c from Entails.of_eq ((rest_at m ρ c 7).trans bigSep_singleton)) $$ Hpay
  unfold recvPay
  icases Hp with ⟨%f2, %hf2, Hs2⟩
  imod (Rounds.cell_close ER (rd m ρ) (Set.mem_univ (K (c, 7))) (fun h => h) (R := 0 + 1) (duties_later m ρ (kcell (c, 7)))) $$ [Ha7] with Hz7
  · isplitr; · iapply (inv_at m ρ K (c, 7)); iexact HR
    iexact Ha7
  iapply (wp_load 𝒱₀ (c : Thread nD τ) none Set.univ (m := cM) (Finset.subset_univ _)) $$ Hc; iintro Hc
  rw [read_c]
  ihave Hs2 := (slotPts_out 2 c f2) $$ Hs2
  iapply (wp_load 𝒱₀ (c : Thread nD τ) none Set.univ (m := sM) rs2_sub) $$ Hs2; iintro Hs2
  rw [read_slot2, show slotRead 2 f2 = K2 m ρ (peer 2 c) from hf2]
  -- the result
  iapply (wp_load 𝒱₀ (c : Thread nD τ) none Set.univ (m := cM) (Finset.subset_univ _)) $$ Hc; iintro Hc
  iapply (wp_store 𝒱₀ (c : Thread nD τ) none Set.univ (m := cM) (r := rc) (Mk := Finset.univ) (Finset.subset_univ _)) $$ Hc; iintro Hc
  rw [write_c]
  iapply (wp_load 𝒱₀ (c : Thread nD τ) none Set.univ (m := cM) (Finset.subset_univ _)) $$ Hc; iintro Hc
  rw [read_c]
  iapply (wp_load 𝒱₀ (c : Thread nD τ) none Set.univ (m := oM) (Finset.subset_univ _)) $$ Hout; iintro Hout
  iapply (wp_store 𝒱₀ (c : Thread nD τ) none Set.univ (m := oM) (r := rc) (Mk := Finset.univ) (Finset.subset_univ _)) $$ Hout; iintro Hout
  rw [write_o]
  -- the signal to the partner of exchange 0 at the exit barrier
  iapply (Rounds.wp_signal 𝒱₀ ER (rd m ρ) (c : Thread nD τ) none (dst := (peer 0 c : Thread nD τ)) (sem := secS) (κ := K (peer 0 c, 1))
      (r := 0) (d := 0) (by rw [show ((peer 0 c : Thread nD τ), SemLoc.reg secS) = kcell (peer 0 c, 1) from rfl, duties_at]; decide)
      ((amount_at m ρ (peer 0 c) 1 0).trans (by decide)) () (owe l7 c) rfl)
    $$ [HO Te0]
  · isplitr; · iapply (inv_at m ρ K (peer 0 c, 1)); iexact HR
    isplitl [HO]; · iexact HO
    isplitl [Te0]; · iexact Te0
    isplitr; · rw [show (rd m ρ).payload ((peer 0 c : Thread nD τ), SemLoc.reg secS) 0 0 = iprop(emp) from payload_at m ρ _ 1 0]; iempintro
    iapply (reached_at m ρ K (peer 0 c, 1)); iexact HR
  iintro HO
  -- the signal to the partner of exchange 1 at the exit barrier
  iapply (Rounds.wp_signal 𝒱₀ ER (rd m ρ) (c : Thread nD τ) none (dst := (peer 1 c : Thread nD τ)) (sem := secS) (κ := K (peer 1 c, 1))
      (r := 0) (d := 1) (by rw [show ((peer 1 c : Thread nD τ), SemLoc.reg secS) = kcell (peer 1 c, 1) from rfl, duties_at]; decide)
      ((amount_at m ρ (peer 1 c) 1 1).trans (by decide)) () (owe l8 c) rfl)
    $$ [HO Te1]
  · isplitr; · iapply (inv_at m ρ K (peer 1 c, 1)); iexact HR
    isplitl [HO]; · iexact HO
    isplitl [Te1]; · iexact Te1
    isplitr; · rw [show (rd m ρ).payload ((peer 1 c : Thread nD τ), SemLoc.reg secS) 0 1 = iprop(emp) from payload_at m ρ _ 1 1]; iempintro
    iapply (reached_at m ρ K (peer 1 c, 1)); iexact HR
  iintro HO
  -- the signal to the partner of exchange 2 at the exit barrier
  iapply (Rounds.wp_signal 𝒱₀ ER (rd m ρ) (c : Thread nD τ) none (dst := (peer 2 c : Thread nD τ)) (sem := secS) (κ := K (peer 2 c, 1))
      (r := 0) (d := 2) (by rw [show ((peer 2 c : Thread nD τ), SemLoc.reg secS) = kcell (peer 2 c, 1) from rfl, duties_at]; decide)
      ((amount_at m ρ (peer 2 c) 1 2).trans (by decide)) () (owe l9 c) rfl)
    $$ [HO Te2]
  · isplitr; · iapply (inv_at m ρ K (peer 2 c, 1)); iexact HR
    isplitl [HO]; · iexact HO
    isplitl [Te2]; · iexact Te2
    isplitr; · rw [show (rd m ρ).payload ((peer 2 c : Thread nD τ), SemLoc.reg secS) 0 2 = iprop(emp) from payload_at m ρ _ 1 2]; iempintro
    iapply (reached_at m ρ K (peer 2 c, 1)); iexact HR
  iintro HO
  -- the exit barrier
  iapply (Rounds.wp_wait_rest_token 𝒱₀ ER (rd m ρ) (c : Thread nD τ) none (sm := csem 1) (κ := K (c, 1))
      (wpE_semWait_eq 𝒱₀ (c : Thread nD τ) none Set.univ) (Set.mem_univ _) () (O := owe l9 c) (R := 0) (m := 0) (T := ∅)
      (by rw [show ((c : Thread nD τ), csem 1) = kcell (c, 1) from rfl, expect_at]; decide)) $$ [Hce HO Ha1]
  · isplitr; · iapply (inv_at m ρ K (c, 1)); iexact HR
    isplitl [Hce]; · iexact Hce
    isplitl [HO]; · iexact HO
    isplitr; · iapply (mayWait_owe c (csem 1) l9 5 (by decide) (by decide)); iexact Hlev
    iexact Ha1
  iintro ⟨HO, Ha1, -, Hpay⟩
  iclear Hpay
  imod (Rounds.cell_close ER (rd m ρ) (Set.mem_univ (K (c, 1))) (fun h => h) (R := 0 + 1) (duties_later m ρ (kcell (c, 1)))) $$ [Ha1] with Hz1
  · isplitr; · iapply (inv_at m ρ K (c, 1)); iexact HR
    iexact Ha1
  rw [wp_ret]; imodintro
  iapply Hk
  unfold bodyPost Φ₁ Dat.owesAt Pipeline.owesWithin
  rw [show (dats m ρ 0 c).owed t₀.succ = 0 from rfl, bigSep_fin8]
  isplitl [Hc Hs0 Hs1 Hs2 Hz0 Hz1 Hz2 Hz3 Hz4 Hz5 Hz6 Hz7]
  · isplitl [Hc Hs0 Hs1 Hs2]
    · unfold scratch
      isplitl [Hc]; · iexists _; iexact Hc
      iapply (slots_join c fs)
      isplitl [Hs0]; · iexists _; unfold slotPts; iexact Hs0
      isplitl [Hs1]; · iexists _; unfold slotPts; iexact Hs1
      iexists _; unfold slotPts; iexact Hs2
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    iexact Hz7
  isplitl [HO]
  · iexists _
    isplitr
    rotate_left
    · iexact HO
    · ipureintro; exact fun _ _ => Or.inl trivial
  isplitl [Hx]
  · iexists _; isplitr; · (ipureintro; rfl)
    iexact Hx
  iexists _; isplitr
  rotate_left
  · iexact Hout
  · ipureintro; rfl

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- What the pipeline asks of the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scoped0) (fun _ => bodyPost m ρ c)
  unfold bodyPre' Φ₀ start
  iintro ⟨⟨⟨⟨%K, Hg⟩, Hcr, Hl⟩, Hscr⟩, Ho, Hx, Hout⟩
  iapply (sound_body m ρ K c fun _ => bodyPost m ρ c)
  unfold bodyPre
  isplitr []
  · isplitl [Hg Hcr Hl Hscr]
    · isplitl [Hg]; · iexact Hg
      isplitl [Hcr]; · iexact Hcr
      isplitl [Hl]; · iexact Hl
      iexact Hscr
    isplitl [Ho]; · iexact Ho
    isplitl [Hx] <;> iassumption
  · iintro H; iexact H

end Body

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := fun k k' h => Option.some.inj ((kOf_csem k).symm.trans ((congrArg kOf h).trans (kOf_csem k')))
theorem kcell_injective : Function.Injective (kcell : Dev nD × Fin 8 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A device's own cells' duty tokens as they are made: (device, which duty). -/
abbrev tokOf (cp : Dev nD × (Fin 3 × Fin 4)) : GSem nD τ sig × ℕ × Fin 3 := (kcell (cp.1, cellIx cp.2), 0, cp.2.1)
theorem cellIx_inj : ∀ p p' : Fin 3 × Fin 4, cellIx p = cellIx p' → p.1 = p'.1 → p = p' := by decide
theorem tokOf_injective : Function.Injective (tokOf : Dev nD × (Fin 3 × Fin 4) → GSem nD τ sig × ℕ × Fin 3) := by
  rintro ⟨c, p⟩ ⟨c', p'⟩ h
  have h1 := kcell_injective (congrArg Prod.fst h)
  have h2 : p.1 = p'.1 := congrArg (fun x : GSem nD τ sig × ℕ × Fin 3 => x.2.2) h
  rw [Prod.mk.injEq] at h1 ⊢
  exact ⟨h1.1, cellIx_inj p p' h1.2 h2⟩
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 := bigSep Finset.univ fun p : Fin 3 × Fin 4 => dutyTok ER (kcell (c, cellIx p)) 0 p.1

def G (c : Dev nD) : sProp 𝕄 :=
  iprop((bigSep Finset.univ fun k : Fin 8 => roundState ER (rd m ρ) (kcell (c, k)) 0)
    ∗ (bigSep Finset.univ fun k : Fin 8 => iprop(atPos ER (kcell (c, k)) 0 ∅ 0 ∗ reached ER (kcell (c, k)) 0)) ∗ toks c)

def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0) := by
  rw [Pipeline.ownSems0_eq_of_list c osem [0, 1, 2, 3, 4, 5, 6] (by decide) (by decide)]; rfl
omit [FloatOps F] in
/-- The entry barrier is the one semaphore the launch does not scope. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem sems0_eq (c : Dev nD) :
    (iprop(unscopedSems0 c ∗ Pipeline.ownSems0 (Ix := Unit) (Name := ℕ) (U := UU) (Lvl := ℕ) (Val := Elt F) (τ := τ) osem c) : sProp 𝕄)
      = (bigSep Finset.univ fun k : Fin 8 => semVal (kcell (c, k)) 0) := by
  rw [ownSems0_eq, unscopedSems0_eq, bigSep_fin8]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 8 => semVal (kcell (c, k)) 0) ∗ bigSep Finset.univ fun k : Fin 8 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens go to the devices that pay with them. -/
def deal : Dev nD × (Fin 3 × Fin 4) ≃ Dev nD × (Fin 3 × Fin 4) where
  toFun x := (pdev x.2 x.1, x.2)
  invFun x := (pdev x.2 x.1, x.2)
  left_inv x := by ext1 <;> simp only [pdev_pdev]
  right_inv x := by ext1 <;> simp only [pdev_pdev]

omit [FloatOps F] in
theorem toks_deal : (bigSep Finset.univ fun c : Dev nD => (toks c : sProp 𝕄)) = bigSep Finset.univ fun c : Dev nD => payToks c := by
  unfold toks payToks
  rw [← bigSep_univ_prod (fun x : Dev nD × (Fin 3 × Fin 4) => (dutyTok ER (kcell (x.1, cellIx x.2)) 0 x.2.1 : sProp 𝕄)),
    ← bigSep_univ_prod (fun x : Dev nD × (Fin 3 × Fin 4) => (dutyTok ER (kcell (pdev x.2 x.1, cellIx x.2)) 0 x.2.1 : sProp 𝕄)),
    bigSep_univ_equiv deal (fun x : Dev nD × (Fin 3 × Fin 4) => (dutyTok ER (kcell (x.1, cellIx x.2)) 0 x.2.1 : sProp 𝕄))]
  rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 8 → ℕ) (c : Dev nD) : iprop(records m ρ K ∗ (ats c ∗ payToks c)) ⊢ G' m ρ c := by
  unfold G' ghost
  iintro H; iexists K; iexact H

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 8 => iprop(∃ κ : ℕ, cellInv ER (rd m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄)), toks_deal]
  iintro ⟨HI, ⟨Hat, #HR⟩, Htk⟩
  ihave HK := (BI.bigSep_exists_pi Finset.univ (fun (ck : Dev nD × Fin 8) (κ : ℕ) => (cellInv ER (rd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · iapply (Entails.of_eq (bigSep_sep' Finset.univ (fun c : Dev nD => (ats c : sProp 𝕄)) payToks).symm)
    unfold ats
    isplitl [Hat]; · iexact Hat
    iexact Htk

/-- The cells of all devices allocated at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The credit at launch -/

/-- What device `d` owes device `c`'s cell `k`: one raise for every pair of the list whose partner `c` is. -/
theorem owe_at (c : Dev nD) (k : Fin 8) (d : Dev nD) : ∀ l : List (Fin 8 × Fin 3),
    owe l d (kcell (c, k)) () = (l.map fun p => if d = peer p.2 c ∧ p.1 = k then amt k else 0).sum
  | [] => rfl
  | p :: l => by
    rw [owe, Pi.add_apply, Finsupp.add_apply, owe_at c k d l, tallyAt_apply, List.map_cons, List.sum_cons, Nat.add_comm]
    congr 1
    by_cases h : d = peer p.2 c ∧ p.1 = k
    · obtain ⟨h1, h2⟩ := h
      have h3 : kcell (c, k) = kcell (peer p.2 d, p.1) := by rw [h1, peer_peer, h2]
      rw [if_pos ⟨h3, rfl⟩, if_pos ⟨h1, h2⟩, h2]
    · rw [if_neg h, if_neg]
      rintro ⟨h1, -⟩
      have h2 := kcell_injective h1
      rw [Prod.mk.injEq] at h2
      exact h ⟨by rw [h2.1, peer_peer], h2.2.symm⟩

theorem owe_sum (c : Dev nD) (k : Fin 8) : ∀ l : List (Fin 8 × Fin 3),
    ∑ d : Dev nD, owe l d (kcell (c, k)) () = (l.map fun p => if p.1 = k then amt k else 0).sum := by
  intro l
  rw [Finset.sum_congr rfl fun d _ => owe_at c k d l]
  induction l with
  | nil => exact Finset.sum_const_zero
  | cons p l ih =>
    simp only [List.map_cons, List.sum_cons]
    rw [Finset.sum_add_distrib, ih]
    congr 1
    by_cases h : p.1 = k
    · simp only [h, and_true, if_true]
      rw [Finset.sum_ite_eq' Finset.univ (peer p.2 c) fun _ => amt k, if_pos (Finset.mem_univ _)]
    · simp only [h, and_false, if_false, Finset.sum_const_zero]

theorem launch_at (c : Dev nD) (k : Fin 8) :
    tallyOn (kcell (c, k)) (launchCredit (Pipeline.owing (owe l0)) 0 (kcell (c, k)))
      = (tallyAt (kcell (c, k)) () ((l0.map fun p => if p.1 = k then amt k else 0).sum) : CellTallies nD τ sig Unit) := by
  unfold tallyAt; refine congrArg _ (Finsupp.ext fun u => ?_); cases u
  rw [Pipeline.launchCredit_owing, Finsupp.single_eq_same, owe_sum]

omit [FloatOps F] in
theorem creds (c : Dev nD) : (Pipeline.launchCred (owe l0) c : sProp 𝕄) ⊢ credits c := by
  unfold Pipeline.launchCred credits
  refine (bigSep_subset (Finset.subset_univ (Finset.univ.map ⟨csem, csem_injective⟩))).trans ?_
  rw [bigSep_map, bigSep_fin8]
  show iprop(cred (tallyOn (kcell (c, 0)) (launchCredit (Pipeline.owing (owe l0)) 0 (kcell (c, 0))))
    ∗ cred (tallyOn (kcell (c, 1)) (launchCredit (Pipeline.owing (owe l0)) 0 (kcell (c, 1))))
    ∗ cred (tallyOn (kcell (c, 2)) (launchCredit (Pipeline.owing (owe l0)) 0 (kcell (c, 2))))
    ∗ cred (tallyOn (kcell (c, 3)) (launchCredit (Pipeline.owing (owe l0)) 0 (kcell (c, 3))))
    ∗ cred (tallyOn (kcell (c, 4)) (launchCredit (Pipeline.owing (owe l0)) 0 (kcell (c, 4))))
    ∗ cred (tallyOn (kcell (c, 5)) (launchCredit (Pipeline.owing (owe l0)) 0 (kcell (c, 5))))
    ∗ cred (tallyOn (kcell (c, 6)) (launchCredit (Pipeline.owing (owe l0)) 0 (kcell (c, 6))))
    ∗ cred (tallyOn (kcell (c, 7)) (launchCredit (Pipeline.owing (owe l0)) 0 (kcell (c, 7))))) ⊢ _
  rw [launch_at, launch_at, launch_at, launch_at, launch_at, launch_at, launch_at, launch_at,
    show (l0.map fun p => if p.1 = 0 then amt 0 else 0).sum = 3 by decide,
    show (l0.map fun p => if p.1 = 1 then amt 1 else 0).sum = 3 by decide,
    show (l0.map fun p => if p.1 = 5 then amt 5 else 0).sum = N by simp [l0, l1, l2, l3, l4, l5, l6, l7, l8, l9, amt],
    show (l0.map fun p => if p.1 = 6 then amt 6 else 0).sum = N by simp [l0, l1, l2, l3, l4, l5, l6, l7, l8, l9, amt],
    show (l0.map fun p => if p.1 = 7 then amt 7 else 0).sum = N by simp [l0, l1, l2, l3, l4, l5, l6, l7, l8, l9, amt]]
  iintro ⟨H0, H1, -, -, -, H5, H6, H7⟩
  isplitl [H0]; · iexact H0
  isplitl [H1]; · iexact H1
  isplitl [H5]; · iexact H5
  isplitl [H6]; · iexact H6
  iexact H7

/-! ### The side conditions of the launch -/

theorem start_intro (c : Dev nD) :
    iprop(Pipeline.unscopedRestP Pipeline.Prefetch.none cfg0.spec c (fun b => m ((c : Thread nD τ).loc b)) ∗ levAts L lv
        ∗ Pipeline.launchCred (owe l0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_owe c _ l0 0 (by fin_cases w <;> fin_cases s <;> decide) (by decide)
    · exact mayWait_owe c _ l9 0 (by fin_cases w <;> fin_cases s <;> decide) (by decide)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values and from any memory with zero counters: every weakly fair
    execution of `main` terminates, and every final state has each device's arrays at the computed contents and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe l0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is as it was. -/
theorem finalA_x (c : Dev nD) : finalA m ρ c (0 : Fin 2) = m (win0_0.arr.view.loc (c : Thread nD τ)) :=
  (dats (F := F) m ρ 0 c).arrAt_in (0 : Fin 2) rfl _

/-- The result array, read back whole, is the third merge. -/
theorem finalA_o (c : Dev nD) : (win0_1.blk (0 : Fin 1)).view.read (Elt F) (finalA m ρ c (1 : Fin 2)) = K3 m ρ c := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true by decide, if_pos rfl]
  exact View.read_write_univ _ _

end Cert.KernelIdeal.Run

end
-- ==== Proof.Frames.lean ====
/- The frame of each program, and what the kernel's result array holds after a run. -/
module

public import proofs.«01_k».proof.Defs
public import proofs.«01_k».proof.Proof.RunBody
public import proofs.«01_k».proof.Proof.KRunBody
public import proofs.«01_k».proof.Proof.Gen.ReferenceIdeal.Run
public import proofs.«01_k».proof.Proof.Gen.DistinctIdeal.Run

@[expose] public section

noncomputable section

namespace Cert.Proof

open Idealize.ShloMosaic Idealize.SL.Sem

/-- The kernel terminates on every memory, keeps its argument, and ends with every counter at zero. -/
theorem frame_kernel : Cert.quiescent_Kernel := by
  intro m ρ _
  exact (θ_run Cert.Kernel.defs _ _).mono
    (fun _ h => ⟨fun c => (h.1 c (0 : Fin 2)).trans (Cert.Kernel.Run.finalA_x m ρ c), h.2⟩)
    (Cert.Kernel.Run.run_main (F := Bits) m ρ)

/-- The same of the kernel read over the extended reals. -/
theorem frame_kernelIdeal : Cert.quiescent_KernelIdeal := by
  intro m ρ _
  exact (θ_run Cert.KernelIdeal.defs _ _).mono
    (fun _ h => ⟨fun c => (h.1 c (0 : Fin 2)).trans (Cert.KernelIdeal.Run.finalA_x m ρ c), h.2⟩)
    (Cert.KernelIdeal.Run.run_main (F := Ideal) m ρ)

/-- The reference terminates on every memory, keeps its argument, and ends with every counter at zero. -/
theorem frame_referenceIdeal : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The same of the reference that lists different values. -/
theorem frame_distinctIdeal : Cert.quiescent_DistinctIdeal := by
  intro m ρ _
  exact (θ_run Cert.DistinctIdeal.defs _ _).mono
    (fun r h => ⟨fun c => (h c).2, sem_eq_zero_of_no_sems (by decide) r.2⟩)
    (Cert.DistinctIdeal.Value.run (F := Ideal) m ρ)

/-- What a device stages of its argument is the argument. -/
theorem xstg_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Run.xstg m ρ c
      = m ((c.tc : Thread Cert.KernelIdeal.nD Cert.KernelIdeal.τ).loc Cert.KernelIdeal.main_arg0) := by
  have hz : (fun a => (Cert.KernelIdeal.win0_0.index (0 : Fin 1)) a * Cert.KernelIdeal.main_arg0.ty.shape.size a) = fun _ => 0 :=
    funext fun a => by fin_cases a <;> decide
  exact Memref.read_access_unit_zero (Elt Ideal) Cert.KernelIdeal.main_arg0 hz (fun a => by fin_cases a <;> decide) _

/-- After a run of the kernel over the extended reals each device's result array holds the third merge of its
    candidates, and its argument what it held. -/
theorem run_kernelIdeal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v1)
          = Cert.KernelIdeal.Run.K3 m ρ c
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) := by
  refine (θ_run Cert.KernelIdeal.defs _ _).mono
    (fun _ h c => ⟨(h.1 c (1 : Fin 2)).trans ?_, (h.1 c (0 : Fin 2)).trans (Cert.KernelIdeal.Run.finalA_x m ρ c)⟩)
    (Cert.KernelIdeal.Run.run_main (F := Ideal) m ρ)
  have hz : (fun a => (Cert.KernelIdeal.win0_1.index (0 : Fin 1)) a * Cert.KernelIdeal.main_v1.ty.shape.size a) = fun _ => 0 :=
    funext fun a => by fin_cases a <;> decide
  have hr := fun f => Memref.read_access_unit_zero (Elt Ideal) Cert.KernelIdeal.main_v1 hz (fun a => by fin_cases a <;> decide) f
  exact (hr _).symm.trans (Cert.KernelIdeal.Run.finalA_o m ρ c)

end Cert.Proof

end
-- ==== Proof.Rank.lean ====
/- The different values of a finite set in falling order: `nth S j` is the `j`-th greatest of `S`, and the bottom element
   where `S` has no more than `j` values. -/
module

public import Mathlib.Data.Finset.Lattice.Fold
public import Mathlib.Data.Finset.Max
public import Mathlib.Data.Finset.Image
public import Mathlib.Data.Finset.Card
public import Mathlib.Order.BoundedOrder.Basic
public import Mathlib.Order.Interval.Finset.Fin

@[expose] public section

namespace Cert.Rank

variable {α : Type} [LinearOrder α] [OrderBot α]

/-- How many elements of `S` lie above `s`. -/
def rk (S : Finset α) (s : α) : ℕ := (S.filter (s < ·)).card

/-- The greatest element of `S` with at least `j` elements of `S` above it, or the bottom element. -/
def nth (S : Finset α) (j : ℕ) : α := (S.filter fun s => j ≤ rk S s).sup id

/-- The first `k` of them. -/
def tops (k : ℕ) (S : Finset α) : Finset α := (Finset.range k).image (nth S)

theorem rk_lt {S : Finset α} {s t : α} (ht : t ∈ S) (h : s < t) : rk S t < rk S s := by
  unfold rk
  refine Finset.card_lt_card ⟨fun u hu => ?_, fun hs => ?_⟩
  · rw [Finset.mem_filter] at hu ⊢; exact ⟨hu.1, h.trans hu.2⟩
  · have := hs (Finset.mem_filter.2 ⟨ht, h⟩)
    exact lt_irrefl _ (Finset.mem_filter.1 this).2

theorem rk_mono {A S : Finset α} (h : A ⊆ S) (s : α) : rk A s ≤ rk S s :=
  Finset.card_le_card (Finset.filter_subset_filter _ h)

/-- An element with more than `j` above it has one above it with at least `j` above that. -/
theorem exists_above {S : Finset α} {s : α} {j : ℕ} (h : j + 1 ≤ rk S s) : ∃ u ∈ S, s < u ∧ j ≤ rk S u := by
  have hne : (S.filter (s < ·)).Nonempty := Finset.card_pos.1 (by unfold rk at h; omega)
  have hu := Finset.min'_mem _ hne
  set u := (S.filter (s < ·)).min' hne
  rw [Finset.mem_filter] at hu
  refine ⟨u, hu.1, hu.2, ?_⟩
  have hsub : (S.filter (s < ·)).erase u ⊆ S.filter (u < ·) := fun v hv => by
    rw [Finset.mem_erase] at hv
    exact Finset.mem_filter.2 ⟨(Finset.mem_filter.1 hv.2).1, lt_of_le_of_ne (Finset.min'_le _ _ hv.2) (Ne.symm hv.1)⟩
  have h1 := Finset.card_le_card hsub
  rw [Finset.card_erase_of_mem (Finset.mem_filter.2 hu)] at h1
  have h2 : rk S s - 1 ≤ rk S u := h1
  omega

theorem lt_nth_iff {S : Finset α} {s : α} {j : ℕ} : s < nth S j ↔ ∃ t ∈ S, j ≤ rk S t ∧ s < t := by
  unfold nth
  rw [Finset.lt_sup_iff]
  simp only [Finset.mem_filter, id, and_assoc]

theorem le_nth {S : Finset α} {s : α} {j : ℕ} (hs : s ∈ S) (h : j ≤ rk S s) : s ≤ nth S j :=
  Finset.le_sup (f := id) (Finset.mem_filter.2 ⟨hs, h⟩)

theorem lt_nth_of_mem {S : Finset α} {s : α} {j : ℕ} : s < nth S j ↔ j + 1 ≤ rk S s := by
  rw [lt_nth_iff]
  constructor
  · rintro ⟨t, ht, hj, hst⟩
    have := rk_lt ht hst
    omega
  · intro h
    obtain ⟨u, hu, h1, h2⟩ := exists_above h
    exact ⟨u, hu, h2, h1⟩

/-- The next value: the greatest of the elements below the `j`-th. -/
theorem sup_lt_nth (S : Finset α) (j : ℕ) : (S.filter (· < nth S j)).sup id = nth S (j + 1) := by
  unfold nth
  congr 1
  exact Finset.filter_congr fun s _ => lt_nth_of_mem

theorem nth_zero (S : Finset α) : nth S 0 = S.sup id := by
  unfold nth
  rw [Finset.filter_true_of_mem fun _ _ => Nat.zero_le _]

/-- An element with exactly `j` above it is the `j`-th value. -/
theorem nth_of_rk {S : Finset α} {s : α} {j : ℕ} (hs : s ∈ S) (h : rk S s = j) : nth S j = s := by
  refine le_antisymm (Finset.sup_le fun t ht => ?_) (le_nth hs h.ge)
  rw [Finset.mem_filter] at ht
  by_contra hc
  have := rk_lt ht.1 (not_le.1 hc)
  omega

theorem nth_mem (S : Finset α) (j : ℕ) : nth S j = ⊥ ∨ (nth S j ∈ S ∧ j ≤ rk S (nth S j)) := by
  unfold nth
  rcases (S.filter fun s => j ≤ rk S s).eq_empty_or_nonempty with h | h
  · left; rw [h, Finset.sup_empty]
  · right
    obtain ⟨t, ht, e⟩ := Finset.exists_mem_eq_sup _ h id
    rw [e]
    exact Finset.mem_filter.1 ht

theorem tops_subset (k : ℕ) (S : Finset α) : tops k S ⊆ insert ⊥ S := fun s hs => by
  obtain ⟨j, _, rfl⟩ := Finset.mem_image.1 hs
  rcases nth_mem S j with h | h
  · rw [h]; exact Finset.mem_insert_self _ _
  · exact Finset.mem_insert_of_mem h.1

theorem mem_tops {S : Finset α} {s : α} {k : ℕ} (hs : s ∈ S) (h : rk S s < k) : s ∈ tops k S :=
  Finset.mem_image.2 ⟨rk S s, Finset.mem_range.2 h, nth_of_rk hs rfl⟩

/-- Leaving out elements with `k` above them, or leaving out or taking in the bottom element, leaves the first `k` values as they are. -/
theorem nth_prune {A S : Finset α} {k : ℕ} (hA : A ⊆ insert ⊥ S) (h : ∀ s ∈ S, s ≠ ⊥ → s ∉ A → k ≤ rk S s) {j : ℕ} (hj : j < k) :
    nth A j = nth S j := by
  refine le_antisymm (Finset.sup_le fun a ha => ?_) (Finset.sup_le fun s hs => ?_)
  · rw [Finset.mem_filter] at ha
    rcases Finset.mem_insert.1 (hA ha.1) with rfl | hS
    · exact bot_le
    · refine le_nth hS (ha.2.trans (Finset.card_le_card fun u hu => ?_))
      rw [Finset.mem_filter] at hu ⊢
      rcases Finset.mem_insert.1 (hA hu.1) with rfl | hu'
      · exact absurd hu.2 not_lt_bot
      · exact ⟨hu', hu.2⟩
  · have hne : (S.filter fun s => j ≤ rk S s).Nonempty := ⟨s, hs⟩
    have ht := Finset.max'_mem _ hne
    have hst := Finset.le_max' _ s hs
    set t := (S.filter fun s => j ≤ rk S s).max' hne
    rw [Finset.mem_filter] at ht
    have hr : rk S t ≤ j := by
      by_contra hc
      obtain ⟨u, hu, h1, h2⟩ := exists_above (S := S) (s := t) (j := j) (by omega)
      exact absurd (Finset.le_max' _ u (Finset.mem_filter.2 ⟨hu, h2⟩)) (not_le.2 h1)
    rcases eq_or_ne t ⊥ with h0 | h0
    · exact (hst.trans h0.le).trans bot_le
    have hin : ∀ u ∈ S, t ≤ u → u ∈ A := fun u hu htu => by
      by_contra hc
      have h1 := h u hu (ne_bot_of_le_ne_bot h0 htu) hc
      have h2 : rk S u ≤ rk S t := by
        rcases htu.eq_or_lt with e | e
        · rw [e]
        · exact (rk_lt hu e).le
      omega
    refine le_trans hst (le_nth (hin t ht.1 le_rfl) (ht.2.trans (Finset.card_le_card fun u hu => ?_)))
    rw [Finset.mem_filter] at hu ⊢
    exact ⟨hin u hu.1 hu.2.le, hu.2⟩

/-- Of a union it is enough to keep the first `k` values of one part, and the first `k'` of the other where an element
    with `k'` above it there has `k` above it in the union. -/
theorem nth_union {P Q S : Finset α} {k k' : ℕ} (hS : P ∪ Q = S) (hQ : ∀ s ∈ Q, s ≠ ⊥ → k' ≤ rk Q s → k ≤ rk S s) {j : ℕ} (hj : j < k) :
    nth (tops k P ∪ tops k' Q) j = nth S j := by
  subst hS
  refine nth_prune (k := k) (fun s hs => ?_) (fun s hs h0 hn => ?_) hj
  · rcases Finset.mem_union.1 hs with h | h
    · exact Finset.insert_subset_insert _ Finset.subset_union_left (tops_subset _ _ h)
    · exact Finset.insert_subset_insert _ Finset.subset_union_right (tops_subset _ _ h)
  · rw [Finset.mem_union, not_or] at hn
    rcases Finset.mem_union.1 hs with h | h
    · have : k ≤ rk P s := by
        by_contra hc
        exact hn.1 (mem_tops h (not_le.1 hc))
      exact this.trans (rk_mono Finset.subset_union_left s)
    · refine hQ s h h0 ?_
      by_contra hc
      exact hn.2 (mem_tops h (not_le.1 hc))

/-- The first `k` values of a union are those of the two parts' first `k` values. -/
theorem nth_union_self (P Q : Finset α) {k j : ℕ} (hj : j < k) : nth (tops k P ∪ tops k Q) j = nth (P ∪ Q) j :=
  nth_union rfl (fun s _ _ h => h.trans (rk_mono Finset.subset_union_right s)) hj

section Halves

variable {n : ℕ} (a b : Fin n → α)

/-- Where the entries of `a` and `b` above `s` are all different, `k'` minima above `s` mean twice as many entries above it. -/
theorem rk_halves (s : α) (hab : ∀ i j, s < a i → a i ≠ b j) (ha : ∀ i j, s < a i → a i = a j → i = j)
    (hb : ∀ i j, s < b i → b i = b j → i = j) {k k' : ℕ} (hk : k ≤ 2 * k') (h : k' ≤ rk (Finset.univ.image fun i => min (a i) (b i)) s) :
    k ≤ rk (Finset.univ.image a ∪ Finset.univ.image b) s := by
  classical
  set I : Finset (Fin n) := Finset.univ.filter fun i => s < min (a i) (b i)
  have hI : k' ≤ I.card := by
    refine h.trans ?_
    unfold rk
    refine (Finset.card_le_card (t := I.image fun i => min (a i) (b i)) fun u hu => ?_).trans Finset.card_image_le
    rw [Finset.mem_filter, Finset.mem_image] at hu
    obtain ⟨⟨i, -, rfl⟩, hi⟩ := hu
    exact Finset.mem_image.2 ⟨i, Finset.mem_filter.2 ⟨Finset.mem_univ _, hi⟩, rfl⟩
  have hla : ∀ i ∈ I, s < a i := fun i hi => (Finset.mem_filter.1 hi).2.trans_le (min_le_left _ _)
  have hlb : ∀ i ∈ I, s < b i := fun i hi => (Finset.mem_filter.1 hi).2.trans_le (min_le_right _ _)
  have hd : Disjoint (I.image a) (I.image b) := by
    rw [Finset.disjoint_left]
    intro u hu hv
    obtain ⟨i, hi, rfl⟩ := Finset.mem_image.1 hu
    obtain ⟨j, -, e⟩ := Finset.mem_image.1 hv
    exact hab i j (hla i hi) e.symm
  have hc : (I.image a ∪ I.image b).card = 2 * I.card := by
    rw [Finset.card_union_of_disjoint hd, Finset.card_image_of_injOn fun i hi j _ e => ha i j (hla i hi) e,
      Finset.card_image_of_injOn fun i hi j _ e => hb i j (hlb i hi) e]; omega
  have hsub : I.image a ∪ I.image b ⊆ (Finset.univ.image a ∪ Finset.univ.image b).filter (s < ·) := fun u hu => by
    rw [Finset.mem_filter]
    rcases Finset.mem_union.1 hu with h | h
    · obtain ⟨i, hi, rfl⟩ := Finset.mem_image.1 h
      exact ⟨Finset.mem_union_left _ (Finset.mem_image_of_mem _ (Finset.mem_univ _)),
        hla i hi⟩
    · obtain ⟨i, hi, rfl⟩ := Finset.mem_image.1 h
      exact ⟨Finset.mem_union_right _ (Finset.mem_image_of_mem _ (Finset.mem_univ _)),
        hlb i hi⟩
  have := Finset.card_le_card hsub
  unfold rk
  omega

theorem image_halves : (Finset.univ.image fun i => max (a i) (b i)) ∪ (Finset.univ.image fun i => min (a i) (b i))
    = Finset.univ.image a ∪ Finset.univ.image b := by
  ext u
  simp only [Finset.mem_union, Finset.mem_image, Finset.mem_univ, true_and]
  constructor
  · rintro (⟨i, rfl⟩ | ⟨i, rfl⟩)
    · rcases max_choice (a i) (b i) with e | e <;> rw [e]
      · exact .inl ⟨i, rfl⟩
      · exact .inr ⟨i, rfl⟩
    · rcases min_choice (a i) (b i) with e | e <;> rw [e]
      · exact .inl ⟨i, rfl⟩
      · exact .inr ⟨i, rfl⟩
  · rintro (⟨i, rfl⟩ | ⟨i, rfl⟩)
    · rcases le_total (a i) (b i) with e | e
      · exact .inr ⟨i, min_eq_left e⟩
      · exact .inl ⟨i, max_eq_left e⟩
    · rcases le_total (a i) (b i) with e | e
      · exact .inl ⟨i, max_eq_right e⟩
      · exact .inr ⟨i, min_eq_right e⟩

end Halves

theorem nth_anti (S : Finset α) {i j : ℕ} (h : i ≤ j) : nth S j ≤ nth S i :=
  Finset.sup_mono fun s hs => by
    rw [Finset.mem_filter] at hs ⊢
    exact ⟨hs.1, h.trans hs.2⟩

/-- Above the bottom the `j`-th value has just `j` above it. -/
theorem rk_nth {S : Finset α} {j : ℕ} (h : nth S j ≠ ⊥) : nth S j ∈ S ∧ rk S (nth S j) = j := by
  rcases nth_mem S j with e | ⟨hm, hr⟩
  · exact absurd e h
  · refine ⟨hm, le_antisymm ?_ hr⟩
    by_contra hc
    exact lt_irrefl _ (lt_nth_of_mem.2 (show j + 1 ≤ rk S (nth S j) by omega))

/-! ## What is below a value does not matter -/

section Clip

variable (θ : α)

/-- A value at `θ` or above stays, another is sent to the bottom. -/
def clip (s : α) : α := if θ ≤ s then s else ⊥

/-- The values of a set, clipped. -/
def up (S : Finset α) : Finset α := S.image (clip θ)

variable {θ}

theorem clip_of_le {s : α} (h : θ ≤ s) : clip θ s = s := if_pos h

theorem clip_bot : clip θ ⊥ = (⊥ : α) := by unfold clip; split <;> rfl

theorem le_of_clip {s : α} (h : clip θ s ≠ ⊥) : θ ≤ s := by
  by_contra hc
  exact h (if_neg hc)

theorem clip_min (s t : α) : clip θ (min s t) = min (clip θ s) (clip θ t) := by
  unfold clip
  rcases le_total s t with h | h
  · rw [min_eq_left h]
    by_cases hs : θ ≤ s
    · rw [if_pos hs, if_pos (hs.trans h), min_eq_left h]
    · rw [if_neg hs, min_eq_left bot_le]
  · rw [min_eq_right h]
    by_cases ht : θ ≤ t
    · rw [if_pos ht, if_pos (ht.trans h), min_eq_right h]
    · rw [if_neg ht, min_eq_right bot_le]

/-- A value that equals one at `θ` or above after clipping is that one. -/
theorem eq_of_clip {s t : α} (h : clip θ s = clip θ t) (ht : θ ≤ t) : s = t := by
  rw [clip_of_le ht] at h
  by_cases hs : θ ≤ s
  · rwa [clip_of_le hs] at h
  · rw [show clip θ s = ⊥ from if_neg hs] at h
    exact absurd (ht.trans (h ▸ bot_le)) hs

theorem up_union [DecidableEq α] (A B : Finset α) : up θ (A ∪ B) = up θ A ∪ up θ B := by
  unfold up
  convert Finset.image_union A B

/-- The first values of a clipped set are the set's, clipped. -/
theorem nth_up (S : Finset α) (j : ℕ) : nth (up θ S) j = clip θ (nth S j) := by
  have h1 : nth (up θ S) j = nth (S.filter (θ ≤ ·)) j := by
    refine nth_prune (k := j + 1) (fun s hs => ?_) (fun s hs _ hn => ?_) (Nat.lt_succ_self j)
    · obtain ⟨t, ht, rfl⟩ := Finset.mem_image.1 hs
      by_cases h : θ ≤ t
      · rw [clip_of_le h]; exact Finset.mem_insert_of_mem (Finset.mem_filter.2 ⟨ht, h⟩)
      · rw [show clip θ t = ⊥ from if_neg h]; exact Finset.mem_insert_self _ _
    · rw [Finset.mem_filter] at hs
      exact absurd (Finset.mem_image.2 ⟨s, hs.1, clip_of_le hs.2⟩) hn
  have hr : ∀ s, θ ≤ s → rk (S.filter (θ ≤ ·)) s = rk S s := fun s hs => by
    unfold rk
    congr 1
    ext u
    simp only [Finset.mem_filter]
    exact ⟨fun h => ⟨h.1.1, h.2⟩, fun h => ⟨⟨h.1, hs.trans h.2.le⟩, h.2⟩⟩
  rw [h1]
  by_cases h : θ ≤ nth S j
  · rw [clip_of_le h]
    rcases eq_or_ne (nth S j) ⊥ with h0 | h0
    · refine le_antisymm (Finset.sup_le fun t ht => ?_) (h0 ▸ bot_le)
      rw [Finset.mem_filter, Finset.mem_filter] at ht
      exact le_nth ht.1.1 (ht.2.trans (hr t ht.1.2).le)
    · obtain ⟨hm, hk⟩ := rk_nth h0
      exact nth_of_rk (Finset.mem_filter.2 ⟨hm, h⟩) ((hr _ h).trans hk)
  · rw [show clip θ (nth S j) = ⊥ from if_neg h]
    refine le_bot_iff.1 (Finset.sup_le fun t ht => ?_)
    rw [Finset.mem_filter, Finset.mem_filter] at ht
    exact absurd (ht.1.2.trans (le_nth ht.1.1 (ht.2.trans (hr t ht.1.2).le))) h

end Clip

end Cert.Rank
-- ==== Proof.Columns.lean ====
/- A row's greatest different values taken one column after another, and what the columns are over the extended reals. -/
module

public import proofs.«01_k».proof.Proof.Rank
public import Idealize.ShloMosaic.Lib.Pipeline.Value
public import Idealize.ShloMosaic.Lib.ValueIdxCore
public import Idealize.ShloMosaic.Lib.Pointwise.Reshape
public import Idealize.ShloMosaic.PureOps.Ideal
public import Idealize.ShloMosaic.PureOps.Ideal.Laws

@[expose] public section

noncomputable section

namespace Cert.Columns

open Idealize.ShloMosaic Idealize.SL.Sem
open Cert.Rank

/-- 512 rows of `N` entries. -/
abbrev Sh (N : ℕ) : Shape := ⟨2, ![512, N]⟩
abbrev Sh₁ : Shape := ⟨1, ![512]⟩

/-- The side conditions of a row's maximum and of its broadcast. -/
structure Ok (N : ℕ) : Prop where
  red : (Sh N).Reduces [1] Sh₁
  cast : Sh₁.ShapeCasts (Sh 1)
  bro : (Sh 1).Broadcasts (Sh N)

section Any

variable {F : FTy → Type} [FloatOps F] {N : ℕ}

/-- Each row's maximum, as a column. -/
def rowMax (h : Ok N) (x : FVec F (Sh N) .f32) : FVec F (Sh 1) .f32 :=
  shapeCast (Sh 1) (multiReduction .maximumf [1] Sh₁ x 0xFF800000#32 h.red (.inl rfl) rfl) h.cast

/-- The row with the entries not below `m` replaced by minus infinity. -/
def below (h : Ok N) (x : FVec F (Sh N) .f32) (m : FVec F (Sh 1) .f32) : FVec F (Sh N) .f32 :=
  select (cmpf .olt x (broadcastTo (Sh N) m h.bro)) x (broadcast (Sh N) (Scalar.ofBits .f32 0xFF800000#32))

/-- Column `j`: the row's maximum, then the maximum of what is below the column before. -/
def col (h : Ok N) (x : FVec F (Sh N) .f32) : ℕ → FVec F (Sh 1) .f32
  | 0 => rowMax h x
  | j + 1 => rowMax h (below h x (col h x j))

/-- The first `k` columns side by side. -/
def topk (h : Ok N) (k : ℕ) (hc : Shape.Concatenates (List.replicate k (Sh 1)) (Sh k) 1) (x : FVec F (Sh N) .f32) : FVec F (Sh k) .f32 :=
  concatenate (Sh k) 1 (List.ofFn fun j : Fin k => (⟨Sh 1, col h x j.val⟩ : (s : Shape) × (s.Idx → F .f32)))
    (by rw [List.map_ofFn]; simpa [Function.comp_def] using hc)

end Any

/-- The values of row `i`. -/
def rowSet {N : ℕ} (x : FVec Ideal (Sh N) .f32) (i : Fin 512) : Finset EReal :=
  Finset.univ.image fun j : Fin N => (x (ValueIdx.ix2 i j) : EReal)

variable {N : ℕ}

theorem ofBits_neg_inf : (Ideal.ofBits .f32 0xFF800000#32 : EReal) = ⊥ := by
  simp [Ideal.ofBits, Ideal.ieee]

theorem rowMax_apply (h : Ok N) (x : FVec Ideal (Sh N) .f32) (i : Fin 512) :
    (rowMax h x (ValueIdx.ix2 i (0 : Fin 1)) : EReal) = Finset.univ.sup fun j : Fin N => (x (ValueIdx.ix2 i j) : EReal) := by
  unfold rowMax
  rw [shapeCast_apply _ h.cast (ValueIdx.ix2 i (0 : Fin 1)) (ValueIdx.ix1 i) (by rw [rowMajor_val1, rowMajor_val2 _ 1 rfl]; simp)]
  refine (Ideal.multiReduction_maximumf_single x _ h.red (.inl rfl) rfl _).trans ?_
  rw [Ideal.ofBits_def, show Ideal.ofBits .f32 (FKind.maximumf.neutral .f32 (.inl rfl)) = ⊥ from ofBits_neg_inf]
  refine Finset.fold_congr (f := x ∘ h.red.lift (ValueIdx.ix1 i)) (g := fun j : Fin N => (x (ValueIdx.ix2 i j) : EReal)) fun j _ => ?_
  refine congrArg x (funext fun a => Fin.ext ?_)
  match a with
  | ⟨0, _⟩ => rfl
  | ⟨1, _⟩ => rfl

theorem below_apply (h : Ok N) (x : FVec Ideal (Sh N) .f32) (m : FVec Ideal (Sh 1) .f32) (i : Fin 512) (j : Fin N) :
    (below h x m (ValueIdx.ix2 i j) : EReal)
      = if (x (ValueIdx.ix2 i j) : EReal) < m (ValueIdx.ix2 i (0 : Fin 1)) then (x (ValueIdx.ix2 i j) : EReal) else ⊥ := by
  unfold below
  rw [ValueIdx.select_apply, ValueIdx.cmpf_apply, ValueIdx.broadcast_apply,
    broadcastTo_apply m h.bro (ValueIdx.ix2 i j) (ValueIdx.ix2 i (0 : Fin 1)) (fun a => by
      match a with
      | ⟨0, _⟩ => rfl
      | ⟨1, _⟩ => rfl)]
  show Scalar.select (Ideal.cmp .olt (x (ValueIdx.ix2 i j)) (m (ValueIdx.ix2 i (0 : Fin 1)))) _ (Ideal.ofBits .f32 0xFF800000#32) = _
  rw [ofBits_neg_inf]
  by_cases hlt : (x (ValueIdx.ix2 i j) : EReal) < m (ValueIdx.ix2 i (0 : Fin 1))
  · simp [Scalar.select, Ideal.cmp, hlt]
  · simp [Scalar.select, Ideal.cmp, hlt]

/-- Column `j` holds each row's `j`-th value. -/
theorem col_apply (h : Ok N) (x : FVec Ideal (Sh N) .f32) (i : Fin 512) (j : ℕ) :
    (col h x j (ValueIdx.ix2 i (0 : Fin 1)) : EReal) = nth (rowSet x i) j := by
  induction j with
  | zero =>
    rw [col, rowMax_apply, nth_zero, rowSet, Finset.sup_image]; rfl
  | succ j ih =>
    rw [col, rowMax_apply, ← sup_lt_nth, ← ih]
    simp only [below_apply]
    refine le_antisymm (Finset.sup_le fun l _ => ?_) (Finset.sup_le fun s hs => ?_)
    · split
      · next hl => exact Finset.le_sup (f := id) (Finset.mem_filter.2 ⟨Finset.mem_image_of_mem _ (Finset.mem_univ l), hl⟩)
      · exact bot_le
    · rw [Finset.mem_filter, rowSet, Finset.mem_image] at hs
      obtain ⟨⟨l, -, rfl⟩, hl⟩ := hs
      refine le_trans (le_of_eq ?_) (Finset.le_sup (Finset.mem_univ l))
      rw [if_pos hl]; rfl

/-- The columns side by side hold each row's first `k` values. -/
theorem topk_apply (h : Ok N) (k : ℕ) (hc : Shape.Concatenates (List.replicate k (Sh 1)) (Sh k) 1) (x : FVec Ideal (Sh N) .f32)
    (i : Fin 512) (j : Fin k) : (topk h k hc x (ValueIdx.ix2 i j) : EReal) = nth (rowSet x i) j.val := by
  unfold topk
  rw [concatenate_ofFn_unit_apply (1 : Fin (Sh k).rank) (fun j : Fin k => col h x j.val) _ rfl rfl (ValueIdx.ix2 i j) j rfl
    (ValueIdx.ix2 i (0 : Fin 1)) (fun b hb => by
      match b with
      | ⟨0, _⟩ => rfl
      | ⟨1, _⟩ => exact absurd rfl hb)]
  exact col_apply h x i j.val

end Cert.Columns

end
-- ==== Proof.Halving.lean ====
/- Taking a row's greatest values half by half: the pairwise maxima keep `k` values, the pairwise minima half as many,
   and the first `k` of those kept are the row's own, where the row's entries are all different. -/
module

public import proofs.«01_k».proof.Proof.Columns

@[expose] public section

noncomputable section

namespace Cert.Columns

open Idealize.ShloMosaic Idealize.SL.Sem
open Cert.Rank

section Any

variable {F : FTy → Type} [FloatOps F]

/-- The entrywise maximum of the two halves of each row. -/
def maxHalf {N M : ℕ} (h0 : (Sh N).Slices ![0, 0] (Sh M)) (h1 : (Sh N).Slices ![0, M] (Sh M)) (x : FVec F (Sh N) .f32) : FVec F (Sh M) .f32 :=
  maximumf (extractStridedSlice (Sh M) ![0, 0] x h0) (extractStridedSlice (Sh M) ![0, M] x h1)

/-- The entrywise minimum of the two halves of each row. -/
def minHalf {N M : ℕ} (h0 : (Sh N).Slices ![0, 0] (Sh M)) (h1 : (Sh N).Slices ![0, M] (Sh M)) (x : FVec F (Sh N) .f32) : FVec F (Sh M) .f32 :=
  minimumf (extractStridedSlice (Sh M) ![0, 0] x h0) (extractStridedSlice (Sh M) ![0, M] x h1)

/-- Two blocks of columns side by side. -/
def beside {a b K : ℕ} (hc : Shape.Concatenates [Sh a, Sh b] (Sh K) 1) (u : FVec F (Sh a) .f32) (v : FVec F (Sh b) .f32) : FVec F (Sh K) .f32 :=
  concatenate (Sh K) 1 [⟨Sh a, u⟩, ⟨Sh b, v⟩] hc

end Any

/-- Row `i` has no two equal entries above `θ`. -/
def RowInj {N : ℕ} (θ : EReal) (x : FVec Ideal (Sh N) .f32) (i : Fin 512) : Prop :=
  ∀ a b : Fin N, (x (ValueIdx.ix2 i a) : EReal) = x (ValueIdx.ix2 i b) → θ < x (ValueIdx.ix2 i a) → a = b

/-- Row `i` of `v` holds the first `k` values of `S`, as far as they are at `θ` or above. -/
def IsTop {k : ℕ} (θ : EReal) (v : FVec Ideal (Sh k) .f32) (i : Fin 512) (S : Finset EReal) : Prop :=
  ∀ j : Fin k, clip θ (v (ValueIdx.ix2 i j) : EReal) = nth (up θ S) j.val

theorem IsTop.rowSet {k : ℕ} {θ : EReal} {v : FVec Ideal (Sh k) .f32} {i : Fin 512} {S : Finset EReal} (h : IsTop θ v i S) :
    up θ (rowSet v i) = tops k (up θ S) := by
  ext s
  simp only [Columns.rowSet, up, tops, Finset.mem_image, Finset.mem_univ, true_and, Finset.mem_range]
  constructor
  · rintro ⟨_, ⟨j, rfl⟩, rfl⟩; exact ⟨j.val, j.isLt, (h j).symm⟩
  · rintro ⟨j, hj, rfl⟩; exact ⟨_, ⟨⟨j, hj⟩, rfl⟩, h ⟨j, hj⟩⟩

theorem IsTop.of_eq {k : ℕ} (θ : EReal) {v : FVec Ideal (Sh k) .f32} {i : Fin 512} {S : Finset EReal}
    (h : ∀ j : Fin k, (v (ValueIdx.ix2 i j) : EReal) = nth S j.val) : IsTop θ v i S := fun j => by rw [h, nth_up]

section Halves

variable {N M : ℕ} (hN : M + M = N) (h0 : (Sh N).Slices ![0, 0] (Sh M)) (h1 : (Sh N).Slices ![0, M] (Sh M))
  (x : FVec Ideal (Sh N) .f32) (i : Fin 512)

/-- The entries of the two halves of a row. -/
def lo (j : Fin M) : EReal := x (ValueIdx.ix2 i ⟨j.val, by omega⟩)
def hi (j : Fin M) : EReal := x (ValueIdx.ix2 i ⟨M + j.val, by omega⟩)

theorem slice_lo (j : Fin M) : (extractStridedSlice (Sh M) ![0, 0] x h0 (ValueIdx.ix2 i j) : EReal) = lo hN x i j :=
  extractStridedSlice_apply _ x h0 _ (ValueIdx.ix2 i ⟨j.val, by omega⟩) fun a => by
    match a with
    | ⟨0, _⟩ => exact (Nat.zero_add _).symm
    | ⟨1, _⟩ => exact (Nat.zero_add _).symm

theorem slice_hi (j : Fin M) : (extractStridedSlice (Sh M) ![0, M] x h1 (ValueIdx.ix2 i j) : EReal) = hi hN x i j :=
  extractStridedSlice_apply _ x h1 _ (ValueIdx.ix2 i ⟨M + j.val, by omega⟩) fun a => by
    match a with
    | ⟨0, _⟩ => exact (Nat.zero_add _).symm
    | ⟨1, _⟩ => rfl

theorem maxHalf_apply (j : Fin M) : (maxHalf h0 h1 x (ValueIdx.ix2 i j) : EReal) = max (lo hN x i j) (hi hN x i j) := by
  rw [← slice_lo hN h0 x i j, ← slice_hi hN h1 x i j]; rfl

theorem minHalf_apply (j : Fin M) : (minHalf h0 h1 x (ValueIdx.ix2 i j) : EReal) = min (lo hN x i j) (hi hN x i j) := by
  rw [← slice_lo hN h0 x i j, ← slice_hi hN h1 x i j]; rfl

theorem rowSet_halves : Finset.univ.image (lo hN x i) ∪ Finset.univ.image (hi hN x i) = rowSet x i := by
  ext s
  simp only [Finset.mem_union, rowSet, Finset.mem_image, Finset.mem_univ, true_and]
  constructor
  · rintro (⟨j, rfl⟩ | ⟨j, rfl⟩)
    · exact ⟨_, rfl⟩
    · exact ⟨_, rfl⟩
  · rintro ⟨j, rfl⟩
    by_cases hj : j.val < M
    · exact .inl ⟨⟨j.val, hj⟩, rfl⟩
    · refine .inr ⟨⟨j.val - M, by omega⟩, ?_⟩
      unfold hi
      exact congrArg x (congrArg (ValueIdx.ix2 i) (Fin.ext (by simp; omega)))

theorem rowSet_maxHalf : rowSet (maxHalf h0 h1 x) i = Finset.univ.image fun j => max (lo hN x i j) (hi hN x i j) := by
  unfold rowSet
  exact Finset.image_congr fun j _ => maxHalf_apply hN h0 h1 x i j

theorem rowSet_minHalf : rowSet (minHalf h0 h1 x) i = Finset.univ.image fun j => min (lo hN x i j) (hi hN x i j) := by
  unfold rowSet
  exact Finset.image_congr fun j _ => minHalf_apply hN h0 h1 x i j

variable {x i}

variable {θ : EReal}

theorem lo_inj (h : RowInj θ x i) (a b : Fin M) (e : lo hN x i a = lo hN x i b) (ht : θ < lo hN x i a) : a = b := by
  have := congrArg Fin.val (h _ _ e ht)
  exact Fin.ext this

theorem hi_inj (h : RowInj θ x i) (a b : Fin M) (e : hi hN x i a = hi hN x i b) (ht : θ < hi hN x i a) : a = b := by
  have := congrArg Fin.val (h _ _ e ht)
  exact Fin.ext (by simpa using this)

theorem lo_ne_hi (h : RowInj θ x i) (a b : Fin M) (ht : θ < lo hN x i a) : lo hN x i a ≠ hi hN x i b := fun e => by
  have := congrArg Fin.val (h _ _ e ht)
  have h2 : a.val = M + b.val := this
  omega

include hN in
theorem RowInj.maxHalf (h : RowInj θ x i) : RowInj θ (maxHalf h0 h1 x) i := fun a b e ht => by
  simp only [maxHalf_apply hN] at e ht
  rcases max_choice (lo hN x i a) (hi hN x i a) with ha | ha <;> rcases max_choice (lo hN x i b) (hi hN x i b) with hb | hb <;>
    rw [ha, hb] at e <;> rw [ha] at ht
  · exact lo_inj hN h _ _ e ht
  · exact absurd e (lo_ne_hi hN h _ _ ht)
  · exact absurd e.symm (lo_ne_hi hN h _ _ (e ▸ ht))
  · exact hi_inj hN h _ _ e ht

include hN in
theorem RowInj.minHalf (h : RowInj θ x i) : RowInj θ (minHalf h0 h1 x) i := fun a b e ht => by
  simp only [minHalf_apply hN] at e ht
  rcases min_choice (lo hN x i a) (hi hN x i a) with ha | ha <;> rcases min_choice (lo hN x i b) (hi hN x i b) with hb | hb <;>
    rw [ha, hb] at e <;> rw [ha] at ht
  · exact lo_inj hN h _ _ e ht
  · exact absurd e (lo_ne_hi hN h _ _ ht)
  · exact absurd e.symm (lo_ne_hi hN h _ _ (e ▸ ht))
  · exact hi_inj hN h _ _ e ht

end Halves

theorem rowSet_beside {a b K : ℕ} (hK : a + b = K) (hc : Shape.Concatenates [Sh a, Sh b] (Sh K) 1) (u : FVec Ideal (Sh a) .f32)
    (v : FVec Ideal (Sh b) .f32) (i : Fin 512) : rowSet (beside hc u v) i = rowSet u i ∪ rowSet v i := by
  have hl : ∀ j : Fin a, (beside hc u v (ValueIdx.ix2 i ⟨j.val, by omega⟩) : EReal) = u (ValueIdx.ix2 i j) := fun j =>
    concatenate_pair_apply_left (1 : Fin (Sh K).rank) u v hc _ rfl (ValueIdx.ix2 i j) fun c => by
      match c with
      | ⟨0, _⟩ => rfl
      | ⟨1, _⟩ => rfl
  have hr : ∀ j : Fin b, (beside hc u v (ValueIdx.ix2 i ⟨a + j.val, by omega⟩) : EReal) = v (ValueIdx.ix2 i j) := fun j =>
    concatenate_pair_apply_right (1 : Fin (Sh K).rank) u v hc _ rfl rfl (ValueIdx.ix2 i j) (fun c hcne => by
      match c with
      | ⟨0, _⟩ => rfl
      | ⟨1, _⟩ => exact absurd rfl hcne) (Nat.add_comm _ _)
  ext s
  simp only [Finset.mem_union, rowSet, Finset.mem_image, Finset.mem_univ, true_and]
  constructor
  · rintro ⟨j, rfl⟩
    by_cases hj : j.val < a
    · exact .inl ⟨⟨j.val, hj⟩, (hl ⟨j.val, hj⟩).symm⟩
    · refine .inr ⟨⟨j.val - a, by omega⟩, (hr ⟨j.val - a, by omega⟩).symm.trans ?_⟩
      exact congrArg (beside hc u v) (congrArg (ValueIdx.ix2 i) (Fin.ext (by simp; omega)))
  · rintro (⟨j, rfl⟩ | ⟨j, rfl⟩)
    · exact ⟨_, hl j⟩
    · exact ⟨_, hr j⟩

variable {θ : EReal}

theorem isTop_topk {N : ℕ} (h : Ok N) (k : ℕ) (hc : Shape.Concatenates (List.replicate k (Sh 1)) (Sh k) 1) (x : FVec Ideal (Sh N) .f32)
    (i : Fin 512) : IsTop θ (topk h k hc x) i (rowSet x i) := IsTop.of_eq θ fun j => topk_apply h k hc x i j

theorem isTop_rowMax {N : ℕ} (h : Ok N) (x : FVec Ideal (Sh N) .f32) (i : Fin 512) : IsTop θ (rowMax h x) i (rowSet x i) :=
  IsTop.of_eq θ fun j => by
    rw [show j = (0 : Fin 1) from Subsingleton.elim _ _]
    exact col_apply h x i 0

/-- One level of halving: the first `k` of the maxima and the first `k'` of the minima give the row's first `k`, where no two
    entries above `θ` are equal. -/
theorem isTop_node {N M K k k' : ℕ} (hN : M + M = N) (hK : k + k' = K) (hk : k ≤ 2 * k')
    (h0 : (Sh N).Slices ![0, 0] (Sh M)) (h1 : (Sh N).Slices ![0, M] (Sh M)) (ok : Ok K)
    (hc : Shape.Concatenates (List.replicate k (Sh 1)) (Sh k) 1) (hb : Shape.Concatenates [Sh k, Sh k'] (Sh K) 1)
    {x : FVec Ideal (Sh N) .f32} {u : FVec Ideal (Sh k) .f32} {v : FVec Ideal (Sh k') .f32} {i : Fin 512} (hx : RowInj θ x i)
    (hu : IsTop θ u i (rowSet (maxHalf h0 h1 x) i)) (hv : IsTop θ v i (rowSet (minHalf h0 h1 x) i)) :
    IsTop θ (topk ok k hc (beside hb u v)) i (rowSet x i) := fun j => by
  have hm : up θ (Finset.univ.image fun j => min (lo hN x i j) (hi hN x i j))
      = Finset.univ.image fun j => min (clip θ (lo hN x i j)) (clip θ (hi hN x i j)) := by
    unfold up
    rw [Finset.image_image]
    exact Finset.image_congr fun j _ => clip_min _ _
  have hs : up θ (rowSet x i) = (Finset.univ.image fun j => clip θ (lo hN x i j)) ∪ Finset.univ.image fun j => clip θ (hi hN x i j) := by
    rw [← rowSet_halves hN x i, up_union]
    unfold up
    rw [Finset.image_image, Finset.image_image]
    rfl
  rw [topk_apply, ← nth_up, rowSet_beside hK, up_union, hu.rowSet, hv.rowSet, rowSet_maxHalf hN, rowSet_minHalf hN]
  refine nth_union (by rw [← up_union, image_halves, rowSet_halves hN x i]) (fun s hq hs0 hr => ?_) j.isLt
  have hθ : θ ≤ s := by
    obtain ⟨t, -, rfl⟩ := Finset.mem_image.1 hq
    have := le_of_clip hs0
    rwa [clip_of_le this]
  have key : ∀ t, s < clip θ t → clip θ t = t ∧ θ < t := fun t ht => by
    have hle := le_of_clip (ne_bot_of_gt ht)
    rw [clip_of_le hle] at ht ⊢
    exact ⟨rfl, hθ.trans_lt ht⟩
  rw [hs]
  rw [hm] at hr
  refine rk_halves _ _ s (fun a b ha e => ?_) (fun a b ha e => ?_) (fun a b ha e => ?_) hk hr
  · obtain ⟨h2, h3⟩ := key _ ha
    have h4 := (key _ (e ▸ ha)).1
    exact lo_ne_hi hN hx a b h3 (by rw [← h2, e, h4])
  · obtain ⟨h2, h3⟩ := key _ ha
    have h4 := (key _ (e ▸ ha)).1
    exact lo_inj hN hx a b (by rw [← h2, e, h4]) h3
  · obtain ⟨h2, h3⟩ := key _ ha
    have h4 := (key _ (e ▸ ha)).1
    exact hi_inj hN hx a b (by rw [← h2, e, h4]) h3

/-- Merging the first `k` values of two sets gives the first `k` of their union. -/
theorem isTop_merge {K k : ℕ} (hK : k + k = K) (ok : Ok K)
    (hc : Shape.Concatenates (List.replicate k (Sh 1)) (Sh k) 1) (hb : Shape.Concatenates [Sh k, Sh k] (Sh K) 1)
    {u v : FVec Ideal (Sh k) .f32} {i : Fin 512} {A B : Finset EReal} (hu : IsTop θ u i A) (hv : IsTop θ v i B) :
    IsTop θ (topk ok k hc (beside hb u v)) i (A ∪ B) := fun j => by
  rw [topk_apply, ← nth_up, rowSet_beside hK, up_union, hu.rowSet, hv.rowSet, up_union, nth_union_self _ _ j.isLt]

end Cert.Columns

end
-- ==== Proof.Clean.lean ====
/- The body's values written with the columns, the halves and the rows side by side: `b`-names are the blocks of columns the
   maxima are taken over, and the lists of maxima kept. Each named value of the body is one of these, a column of one, or a step to the
   next column. -/
module

public import proofs.«01_k».proof.Proof.Vals
public import proofs.«01_k».proof.Proof.Halving

@[expose] public section

noncomputable section

namespace Cert.KernelIdeal.Val

open Idealize.ShloMosaic Idealize.SL.Sem Cert.KernelIdeal Cert.KernelIdeal.Gen Cert.Columns

section

variable {F : FTy → Type} [FloatOps F]

theorem ok3 : Ok 3 := ⟨reduces_S512x3_S512, shapeCasts_S512_S512x1, broadcasts_S512x1_S512x3⟩
theorem ok6 : Ok 6 := ⟨reduces_S512x6_S512, shapeCasts_S512_S512x1, broadcasts_S512x1_S512x6⟩
theorem ok12 : Ok 12 := ⟨reduces_S512x12_S512, shapeCasts_S512_S512x1, broadcasts_S512x1_S512x12⟩
theorem ok24 : Ok 24 := ⟨reduces_S512x24_S512, shapeCasts_S512_S512x1, broadcasts_S512x1_S512x24⟩
theorem ok32 : Ok 32 := ⟨reduces_S512x32_S512, shapeCasts_S512_S512x1, broadcasts_S512x1_S512x32⟩
theorem ok256 : Ok 256 := ⟨reduces_S512x256_S512, shapeCasts_S512_S512x1, broadcasts_S512x1_S512x256⟩

def b14 (x : Vec F S512x4096 .f32) : FVec F (Sh 4096) .f32 := shapeCast S512x4096 x shapeCasts_S512x4096_S512x4096
def b17 (x : Vec F S512x4096 .f32) : FVec F (Sh 2048) .f32 := maxHalf slices_S512x4096_o0_0_S512x2048 slices_S512x4096_o0_2048_S512x2048 (b14 x)
def b18 (x : Vec F S512x4096 .f32) : FVec F (Sh 2048) .f32 := minHalf slices_S512x4096_o0_0_S512x2048 slices_S512x4096_o0_2048_S512x2048 (b14 x)
def b21 (x : Vec F S512x4096 .f32) : FVec F (Sh 1024) .f32 := maxHalf slices_S512x2048_o0_0_S512x1024 slices_S512x2048_o0_1024_S512x1024 (b17 x)
def b22 (x : Vec F S512x4096 .f32) : FVec F (Sh 1024) .f32 := minHalf slices_S512x2048_o0_0_S512x1024 slices_S512x2048_o0_1024_S512x1024 (b17 x)
def b25 (x : Vec F S512x4096 .f32) : FVec F (Sh 512) .f32 := maxHalf slices_S512x1024_o0_0_S512x512 slices_S512x1024_o0_512_S512x512 (b21 x)
def b26 (x : Vec F S512x4096 .f32) : FVec F (Sh 512) .f32 := minHalf slices_S512x1024_o0_0_S512x512 slices_S512x1024_o0_512_S512x512 (b21 x)
def b29 (x : Vec F S512x4096 .f32) : FVec F (Sh 256) .f32 := maxHalf slices_S512x512_o0_0_S512x256 slices_S512x512_o0_256_S512x256 (b25 x)
def b30 (x : Vec F S512x4096 .f32) : FVec F (Sh 256) .f32 := minHalf slices_S512x512_o0_0_S512x256 slices_S512x512_o0_256_S512x256 (b25 x)
def b123 (x : Vec F S512x4096 .f32) : FVec F (Sh 16) .f32 := topk ok256 16 concatenates_S512x1_S512x1_S512x1_S512x1_S512x1_S512x1_S512x1_S512x1_S512x1_S512x1_S512x1_S512x1_S512x1_S512x1_S512x1_S512x1_S512x16_d1 (b29 x)
def b168 (x : Vec F S512x4096 .f32) : FVec F (Sh 8) .f32 := topk ok256 8 concatenates_S512x1_S512x1_S512x1_S512x1_S512x1_S512x1_S512x1_S512x1_S512x8_d1 (b30 x)
def b169 (x : Vec F S512x4096 .f32) : FVec F (Sh 24) .f32 := beside concatenates_S512x16_S512x8_S512x24_d1 (b123 x) (b168 x)
def b262 (x : Vec F S512x4096 .f32) : FVec F (Sh 16) .f32 := topk ok24 16 concatenates_S512x1_S512x1_S512x1_S512x1_S512x1_S512x1_S512x1_S512x1_S512x1_S512x1_S512x1_S512x1_S512x1_S512x1_S512x1_S512x1_S512x16_d1 (b169 x)
def b265 (x : Vec F S512x4096 .f32) : FVec F (Sh 256) .f32 := maxHalf slices_S512x512_o0_0_S512x256 slices_S512x512_o0_256_S512x256 (b26 x)
def b266 (x : Vec F S512x4096 .f32) : FVec F (Sh 256) .f32 := minHalf slices_S512x512_o0_0_S512x256 slices_S512x512_o0_256_S512x256 (b26 x)
def b311 (x : Vec F S512x4096 .f32) : FVec F (Sh 8) .f32 := topk ok256 8 concatenates_S512x1_S512x1_S512x1_S512x1_S512x1_S512x1_S512x1_S512x1_S512x8_d1 (b265 x)
def b332 (x : Vec F S512x4096 .f32) : FVec F (Sh 4) .f32 := topk ok256 4 concatenates_S512x1_S512x1_S512x1_S512x1_S512x4_d1 (b266 x)
def b333 (x : Vec F S512x4096 .f32) : FVec F (Sh 12) .f32 := beside concatenates_S512x8_S512x4_S512x12_d1 (b311 x) (b332 x)
def b378 (x : Vec F S512x4096 .f32) : FVec F (Sh 8) .f32 := topk ok12 8 concatenates_S512x1_S512x1_S512x1_S512x1_S512x1_S512x1_S512x1_S512x1_S512x8_d1 (b333 x)
def b379 (x : Vec F S512x4096 .f32) : FVec F (Sh 24) .f32 := beside concatenates_S512x16_S512x8_S512x24_d1 (b262 x) (b378 x)
def b472 (x : Vec F S512x4096 .f32) : FVec F (Sh 16) .f32 := topk ok24 16 concatenates_S512x1_S512x1_S512x1_S512x1_S512x1_S512x1_S512x1_S512x1_S512x1_S512x1_S512x1_S512x1_S512x1_S512x1_S512x1_S512x1_S512x16_d1 (b379 x)
def b475 (x : Vec F S512x4096 .f32) : FVec F (Sh 512) .f32 := maxHalf slices_S512x1024_o0_0_S512x512 slices_S512x1024_o0_512_S512x512 (b22 x)
def b476 (x : Vec F S512x4096 .f32) : FVec F (Sh 512) .f32 := minHalf slices_S512x1024_o0_0_S512x512 slices_S512x1024_o0_512_S512x512 (b22 x)
def b479 (x : Vec F S512x4096 .f32) : FVec F (Sh 256) .f32 := maxHalf slices_S512x512_o0_0_S512x256 slices_S512x512_o0_256_S512x256 (b475 x)
def b480 (x : Vec F S512x4096 .f32) : FVec F (Sh 256) .f32 := minHalf slices_S512x512_o0_0_S512x256 slices_S512x512_o0_256_S512x256 (b475 x)
def b525 (x : Vec F S512x4096 .f32) : FVec F (Sh 8) .f32 := topk ok256 8 concatenates_S512x1_S512x1_S512x1_S512x1_S512x1_S512x1_S512x1_S512x1_S512x8_d1 (b479 x)
def b546 (x : Vec F S512x4096 .f32) : FVec F (Sh 4) .f32 := topk ok256 4 concatenates_S512x1_S512x1_S512x1_S512x1_S512x4_d1 (b480 x)
def b547 (x : Vec F S512x4096 .f32) : FVec F (Sh 12) .f32 := beside concatenates_S512x8_S512x4_S512x12_d1 (b525 x) (b546 x)
def b592 (x : Vec F S512x4096 .f32) : FVec F (Sh 8) .f32 := topk ok12 8 concatenates_S512x1_S512x1_S512x1_S512x1_S512x1_S512x1_S512x1_S512x1_S512x8_d1 (b547 x)
def b595 (x : Vec F S512x4096 .f32) : FVec F (Sh 256) .f32 := maxHalf slices_S512x512_o0_0_S512x256 slices_S512x512_o0_256_S512x256 (b476 x)
def b596 (x : Vec F S512x4096 .f32) : FVec F (Sh 256) .f32 := minHalf slices_S512x512_o0_0_S512x256 slices_S512x512_o0_256_S512x256 (b476 x)
def b617 (x : Vec F S512x4096 .f32) : FVec F (Sh 4) .f32 := topk ok256 4 concatenates_S512x1_S512x1_S512x1_S512x1_S512x4_d1 (b595 x)
def b626 (x : Vec F S512x4096 .f32) : FVec F (Sh 2) .f32 := topk ok256 2 concatenates_S512x1_S512x1_S512x2_d1 (b596 x)
def b627 (x : Vec F S512x4096 .f32) : FVec F (Sh 6) .f32 := beside concatenates_S512x4_S512x2_S512x6_d1 (b617 x) (b626 x)
def b648 (x : Vec F S512x4096 .f32) : FVec F (Sh 4) .f32 := topk ok6 4 concatenates_S512x1_S512x1_S512x1_S512x1_S512x4_d1 (b627 x)
def b649 (x : Vec F S512x4096 .f32) : FVec F (Sh 12) .f32 := beside concatenates_S512x8_S512x4_S512x12_d1 (b592 x) (b648 x)
def b694 (x : Vec F S512x4096 .f32) : FVec F (Sh 8) .f32 := topk ok12 8 concatenates_S512x1_S512x1_S512x1_S512x1_S512x1_S512x1_S512x1_S512x1_S512x8_d1 (b649 x)
def b695 (x : Vec F S512x4096 .f32) : FVec F (Sh 24) .f32 := beside concatenates_S512x16_S512x8_S512x24_d1 (b472 x) (b694 x)
def b788 (x : Vec F S512x4096 .f32) : FVec F (Sh 16) .f32 := topk ok24 16 concatenates_S512x1_S512x1_S512x1_S512x1_S512x1_S512x1_S512x1_S512x1_S512x1_S512x1_S512x1_S512x1_S512x1_S512x1_S512x1_S512x1_S512x16_d1 (b695 x)
def b791 (x : Vec F S512x4096 .f32) : FVec F (Sh 1024) .f32 := maxHalf slices_S512x2048_o0_0_S512x1024 slices_S512x2048_o0_1024_S512x1024 (b18 x)
def b792 (x : Vec F S512x4096 .f32) : FVec F (Sh 1024) .f32 := minHalf slices_S512x2048_o0_0_S512x1024 slices_S512x2048_o0_1024_S512x1024 (b18 x)
def b795 (x : Vec F S512x4096 .f32) : FVec F (Sh 512) .f32 := maxHalf slices_S512x1024_o0_0_S512x512 slices_S512x1024_o0_512_S512x512 (b791 x)
def b796 (x : Vec F S512x4096 .f32) : FVec F (Sh 512) .f32 := minHalf slices_S512x1024_o0_0_S512x512 slices_S512x1024_o0_512_S512x512 (b791 x)
def b799 (x : Vec F S512x4096 .f32) : FVec F (Sh 256) .f32 := maxHalf slices_S512x512_o0_0_S512x256 slices_S512x512_o0_256_S512x256 (b795 x)
def b800 (x : Vec F S512x4096 .f32) : FVec F (Sh 256) .f32 := minHalf slices_S512x512_o0_0_S512x256 slices_S512x512_o0_256_S512x256 (b795 x)
def b845 (x : Vec F S512x4096 .f32) : FVec F (Sh 8) .f32 := topk ok256 8 concatenates_S512x1_S512x1_S512x1_S512x1_S512x1_S512x1_S512x1_S512x1_S512x8_d1 (b799 x)
def b866 (x : Vec F S512x4096 .f32) : FVec F (Sh 4) .f32 := topk ok256 4 concatenates_S512x1_S512x1_S512x1_S512x1_S512x4_d1 (b800 x)
def b867 (x : Vec F S512x4096 .f32) : FVec F (Sh 12) .f32 := beside concatenates_S512x8_S512x4_S512x12_d1 (b845 x) (b866 x)
def b912 (x : Vec F S512x4096 .f32) : FVec F (Sh 8) .f32 := topk ok12 8 concatenates_S512x1_S512x1_S512x1_S512x1_S512x1_S512x1_S512x1_S512x1_S512x8_d1 (b867 x)
def b915 (x : Vec F S512x4096 .f32) : FVec F (Sh 256) .f32 := maxHalf slices_S512x512_o0_0_S512x256 slices_S512x512_o0_256_S512x256 (b796 x)
def b916 (x : Vec F S512x4096 .f32) : FVec F (Sh 256) .f32 := minHalf slices_S512x512_o0_0_S512x256 slices_S512x512_o0_256_S512x256 (b796 x)
def b937 (x : Vec F S512x4096 .f32) : FVec F (Sh 4) .f32 := topk ok256 4 concatenates_S512x1_S512x1_S512x1_S512x1_S512x4_d1 (b915 x)
def b946 (x : Vec F S512x4096 .f32) : FVec F (Sh 2) .f32 := topk ok256 2 concatenates_S512x1_S512x1_S512x2_d1 (b916 x)
def b947 (x : Vec F S512x4096 .f32) : FVec F (Sh 6) .f32 := beside concatenates_S512x4_S512x2_S512x6_d1 (b937 x) (b946 x)
def b968 (x : Vec F S512x4096 .f32) : FVec F (Sh 4) .f32 := topk ok6 4 concatenates_S512x1_S512x1_S512x1_S512x1_S512x4_d1 (b947 x)
def b969 (x : Vec F S512x4096 .f32) : FVec F (Sh 12) .f32 := beside concatenates_S512x8_S512x4_S512x12_d1 (b912 x) (b968 x)
def b1014 (x : Vec F S512x4096 .f32) : FVec F (Sh 8) .f32 := topk ok12 8 concatenates_S512x1_S512x1_S512x1_S512x1_S512x1_S512x1_S512x1_S512x1_S512x8_d1 (b969 x)
def b1017 (x : Vec F S512x4096 .f32) : FVec F (Sh 512) .f32 := maxHalf slices_S512x1024_o0_0_S512x512 slices_S512x1024_o0_512_S512x512 (b792 x)
def b1018 (x : Vec F S512x4096 .f32) : FVec F (Sh 512) .f32 := minHalf slices_S512x1024_o0_0_S512x512 slices_S512x1024_o0_512_S512x512 (b792 x)
def b1021 (x : Vec F S512x4096 .f32) : FVec F (Sh 256) .f32 := maxHalf slices_S512x512_o0_0_S512x256 slices_S512x512_o0_256_S512x256 (b1017 x)
def b1022 (x : Vec F S512x4096 .f32) : FVec F (Sh 256) .f32 := minHalf slices_S512x512_o0_0_S512x256 slices_S512x512_o0_256_S512x256 (b1017 x)
def b1043 (x : Vec F S512x4096 .f32) : FVec F (Sh 4) .f32 := topk ok256 4 concatenates_S512x1_S512x1_S512x1_S512x1_S512x4_d1 (b1021 x)
def b1052 (x : Vec F S512x4096 .f32) : FVec F (Sh 2) .f32 := topk ok256 2 concatenates_S512x1_S512x1_S512x2_d1 (b1022 x)
def b1053 (x : Vec F S512x4096 .f32) : FVec F (Sh 6) .f32 := beside concatenates_S512x4_S512x2_S512x6_d1 (b1043 x) (b1052 x)
def b1074 (x : Vec F S512x4096 .f32) : FVec F (Sh 4) .f32 := topk ok6 4 concatenates_S512x1_S512x1_S512x1_S512x1_S512x4_d1 (b1053 x)
def b1077 (x : Vec F S512x4096 .f32) : FVec F (Sh 256) .f32 := maxHalf slices_S512x512_o0_0_S512x256 slices_S512x512_o0_256_S512x256 (b1018 x)
def b1078 (x : Vec F S512x4096 .f32) : FVec F (Sh 256) .f32 := minHalf slices_S512x512_o0_0_S512x256 slices_S512x512_o0_256_S512x256 (b1018 x)
def b1087 (x : Vec F S512x4096 .f32) : FVec F (Sh 2) .f32 := topk ok256 2 concatenates_S512x1_S512x1_S512x2_d1 (b1077 x)
def b1090 (x : Vec F S512x4096 .f32) : FVec F (Sh 3) .f32 := beside concatenates_S512x2_S512x1_S512x3_d1 (b1087 x) (col ok256 (b1078 x) 0)
def b1099 (x : Vec F S512x4096 .f32) : FVec F (Sh 2) .f32 := topk ok3 2 concatenates_S512x1_S512x1_S512x2_d1 (b1090 x)
def b1100 (x : Vec F S512x4096 .f32) : FVec F (Sh 6) .f32 := beside concatenates_S512x4_S512x2_S512x6_d1 (b1074 x) (b1099 x)
def b1121 (x : Vec F S512x4096 .f32) : FVec F (Sh 4) .f32 := topk ok6 4 concatenates_S512x1_S512x1_S512x1_S512x1_S512x4_d1 (b1100 x)
def b1122 (x : Vec F S512x4096 .f32) : FVec F (Sh 12) .f32 := beside concatenates_S512x8_S512x4_S512x12_d1 (b1014 x) (b1121 x)
def b1167 (x : Vec F S512x4096 .f32) : FVec F (Sh 8) .f32 := topk ok12 8 concatenates_S512x1_S512x1_S512x1_S512x1_S512x1_S512x1_S512x1_S512x1_S512x8_d1 (b1122 x)
def b1168 (x : Vec F S512x4096 .f32) : FVec F (Sh 24) .f32 := beside concatenates_S512x16_S512x8_S512x24_d1 (b788 x) (b1167 x)
def b1261 (x : Vec F S512x4096 .f32) : FVec F (Sh 16) .f32 := topk ok24 16 concatenates_S512x1_S512x1_S512x1_S512x1_S512x1_S512x1_S512x1_S512x1_S512x1_S512x1_S512x1_S512x1_S512x1_S512x1_S512x1_S512x1_S512x16_d1 (b1168 x)
def b1264 (x : Vec F S512x4096 .f32) : FVec F (Sh 16) .f32 := shapeCast S512x16 (b1261 x) shapeCasts_S512x16_S512x16
def b1285 (a : Vec F S512x16 .f32) (b : Vec F S1x512x16 .f32) : FVec F (Sh 16) .f32 := shapeCast S512x16 b shapeCasts_S1x512x16_S512x16
def b1286 (a : Vec F S512x16 .f32) (b : Vec F S1x512x16 .f32) : FVec F (Sh 32) .f32 := beside concatenates_S512x16_S512x16_S512x32_d1 a (b1285 a b)
def b1379 (a : Vec F S512x16 .f32) (b : Vec F S1x512x16 .f32) : FVec F (Sh 16) .f32 := topk ok32 16 concatenates_S512x1_S512x1_S512x1_S512x1_S512x1_S512x1_S512x1_S512x1_S512x1_S512x1_S512x1_S512x1_S512x1_S512x1_S512x1_S512x1_S512x16_d1 (b1286 a b)
def b1382 (a : Vec F S512x16 .f32) (b : Vec F S1x512x16 .f32) : FVec F (Sh 16) .f32 := shapeCast S512x16 (b1379 a b) shapeCasts_S512x16_S512x16
def b1403 (a : Vec F S512x16 .f32) (b : Vec F S1x512x16 .f32) : FVec F (Sh 16) .f32 := shapeCast S512x16 b shapeCasts_S1x512x16_S512x16
def b1404 (a : Vec F S512x16 .f32) (b : Vec F S1x512x16 .f32) : FVec F (Sh 32) .f32 := beside concatenates_S512x16_S512x16_S512x32_d1 a (b1403 a b)
def b1497 (a : Vec F S512x16 .f32) (b : Vec F S1x512x16 .f32) : FVec F (Sh 16) .f32 := topk ok32 16 concatenates_S512x1_S512x1_S512x1_S512x1_S512x1_S512x1_S512x1_S512x1_S512x1_S512x1_S512x1_S512x1_S512x1_S512x1_S512x1_S512x1_S512x16_d1 (b1404 a b)
def b1500 (a : Vec F S512x16 .f32) (b : Vec F S1x512x16 .f32) : FVec F (Sh 16) .f32 := shapeCast S512x16 (b1497 a b) shapeCasts_S512x16_S512x16
def b1521 (a : Vec F S512x16 .f32) (b : Vec F S1x512x16 .f32) : FVec F (Sh 16) .f32 := shapeCast S512x16 b shapeCasts_S1x512x16_S512x16
def b1522 (a : Vec F S512x16 .f32) (b : Vec F S1x512x16 .f32) : FVec F (Sh 32) .f32 := beside concatenates_S512x16_S512x16_S512x32_d1 a (b1521 a b)
def b1615 (a : Vec F S512x16 .f32) (b : Vec F S1x512x16 .f32) : FVec F (Sh 16) .f32 := topk ok32 16 concatenates_S512x1_S512x1_S512x1_S512x1_S512x1_S512x1_S512x1_S512x1_S512x1_S512x1_S512x1_S512x1_S512x1_S512x1_S512x1_S512x1_S512x16_d1 (b1522 a b)
def b1618 (a : Vec F S512x16 .f32) (b : Vec F S1x512x16 .f32) : FVec F (Sh 16) .f32 := shapeCast S512x16 (b1615 a b) shapeCasts_S512x16_S512x16

theorem x18_eq (x : Vec F S512x4096 .f32) : x18 x = (b18 x) := by unfold x18; rfl
theorem x22_eq (x : Vec F S512x4096 .f32) : x22 x = (b22 x) := by unfold x22; rfl
theorem x26_eq (x : Vec F S512x4096 .f32) : x26 x = (b26 x) := by unfold x26; rfl
theorem x29_eq (x : Vec F S512x4096 .f32) : x29 x = (b29 x) := by unfold x29; rfl
theorem x30_eq (x : Vec F S512x4096 .f32) : x30 x = (b30 x) := by unfold x30; rfl
theorem x32_eq (x : Vec F S512x4096 .f32) : x32 x = (col ok256 (b29 x) 0) := by unfold x32; rfl
theorem x34_eq (x : Vec F S512x4096 .f32) : x34 x = (cmpf .olt (b29 x) (broadcastTo (Sh 256) (col ok256 (b29 x) 0) ok256.bro)) := by unfold x34; rfl
theorem x38_eq (x : Vec F S512x4096 .f32) : x38 x = (col ok256 (b29 x) 1) := by unfold x38; rw [x29_eq, x34_eq]; rfl
theorem x44_eq (x : Vec F S512x4096 .f32) : x44 x = (col ok256 (b29 x) 2) := by unfold x44; rw [x29_eq, x34_eq]; rfl
theorem x50_eq (x : Vec F S512x4096 .f32) : x50 x = (col ok256 (b29 x) 3) := by unfold x50; rw [x29_eq, x34_eq]; rfl
theorem x56_eq (x : Vec F S512x4096 .f32) : x56 x = (col ok256 (b29 x) 4) := by unfold x56; rw [x29_eq, x34_eq]; rfl
theorem x62_eq (x : Vec F S512x4096 .f32) : x62 x = (col ok256 (b29 x) 5) := by unfold x62; rw [x29_eq, x34_eq]; rfl
theorem x68_eq (x : Vec F S512x4096 .f32) : x68 x = (col ok256 (b29 x) 6) := by unfold x68; rw [x29_eq, x34_eq]; rfl
theorem x74_eq (x : Vec F S512x4096 .f32) : x74 x = (col ok256 (b29 x) 7) := by unfold x74; rw [x29_eq, x34_eq]; rfl
theorem x79_eq (x : Vec F S512x4096 .f32) : x79 x = (multiReduction .maximumf [1] S512 (below ok256 (b29 x) (col ok256 (b29 x) 7)) 0xFF800000#32 ok256.red (.inl rfl) rfl) := by unfold x79; rw [x29_eq, x34_eq]; rfl
theorem x123_eq (x : Vec F S512x4096 .f32) : x123 x = (b123 x) := by unfold x123; rw [x29_eq, x32_eq, x38_eq, x44_eq, x50_eq, x56_eq, x62_eq, x68_eq, x74_eq, x79_eq]; rfl
theorem x124_eq (x : Vec F S512x4096 .f32) : x124 x = (multiReduction .maximumf [1] S512 (b30 x) 0xFF800000#32 ok256.red (.inl rfl) rfl) := by unfold x124; rw [x30_eq]; rfl
theorem x169_eq (x : Vec F S512x4096 .f32) : x169 x = (b169 x) := by unfold x169; rw [x30_eq, x123_eq, x124_eq]; rfl
theorem x171_eq (x : Vec F S512x4096 .f32) : x171 x = (col ok24 (b169 x) 0) := by unfold x171; rw [x169_eq]; rfl
theorem x177_eq (x : Vec F S512x4096 .f32) : x177 x = (col ok24 (b169 x) 1) := by unfold x177; rw [x169_eq]; rfl
theorem x183_eq (x : Vec F S512x4096 .f32) : x183 x = (col ok24 (b169 x) 2) := by unfold x183; rw [x169_eq]; rfl
theorem x189_eq (x : Vec F S512x4096 .f32) : x189 x = (col ok24 (b169 x) 3) := by unfold x189; rw [x169_eq]; rfl
theorem x195_eq (x : Vec F S512x4096 .f32) : x195 x = (col ok24 (b169 x) 4) := by unfold x195; rw [x169_eq]; rfl
theorem x201_eq (x : Vec F S512x4096 .f32) : x201 x = (col ok24 (b169 x) 5) := by unfold x201; rw [x169_eq]; rfl
theorem x207_eq (x : Vec F S512x4096 .f32) : x207 x = (col ok24 (b169 x) 6) := by unfold x207; rw [x169_eq]; rfl
theorem x213_eq (x : Vec F S512x4096 .f32) : x213 x = (col ok24 (b169 x) 7) := by unfold x213; rw [x169_eq]; rfl
theorem x215_eq (x : Vec F S512x4096 .f32) : x215 x = (cmpf .olt (b169 x) (broadcastTo (Sh 24) (col ok24 (b169 x) 7) ok24.bro)) := by unfold x215; rw [x169_eq]; rfl
theorem x219_eq (x : Vec F S512x4096 .f32) : x219 x = (col ok24 (b169 x) 8) := by unfold x219; rw [x169_eq, x215_eq]; rfl
theorem x225_eq (x : Vec F S512x4096 .f32) : x225 x = (col ok24 (b169 x) 9) := by unfold x225; rw [x169_eq, x215_eq]; rfl
theorem x231_eq (x : Vec F S512x4096 .f32) : x231 x = (col ok24 (b169 x) 10) := by unfold x231; rw [x169_eq, x215_eq]; rfl
theorem x237_eq (x : Vec F S512x4096 .f32) : x237 x = (col ok24 (b169 x) 11) := by unfold x237; rw [x169_eq, x215_eq]; rfl
theorem x243_eq (x : Vec F S512x4096 .f32) : x243 x = (col ok24 (b169 x) 12) := by unfold x243; rw [x169_eq, x215_eq]; rfl
theorem x249_eq (x : Vec F S512x4096 .f32) : x249 x = (col ok24 (b169 x) 13) := by unfold x249; rw [x169_eq, x215_eq]; rfl
theorem x255_eq (x : Vec F S512x4096 .f32) : x255 x = (col ok24 (b169 x) 14) := by unfold x255; rw [x169_eq, x215_eq]; rfl
theorem x259_eq (x : Vec F S512x4096 .f32) : x259 x = (below ok24 (b169 x) (col ok24 (b169 x) 14)) := by unfold x259; rw [x169_eq, x215_eq]; rfl
theorem x262_eq (x : Vec F S512x4096 .f32) : x262 x = (b262 x) := by unfold x262; rw [x171_eq, x177_eq, x183_eq, x189_eq, x195_eq, x201_eq, x207_eq, x213_eq, x219_eq, x225_eq, x231_eq, x237_eq, x243_eq, x249_eq, x255_eq, x259_eq]; rfl
theorem x265_eq (x : Vec F S512x4096 .f32) : x265 x = (b265 x) := by unfold x265; rw [x26_eq]; rfl
theorem x266_eq (x : Vec F S512x4096 .f32) : x266 x = (b266 x) := by unfold x266; rw [x26_eq]; rfl
theorem x268_eq (x : Vec F S512x4096 .f32) : x268 x = (col ok256 (b265 x) 0) := by unfold x268; rw [x26_eq]; rfl
theorem x274_eq (x : Vec F S512x4096 .f32) : x274 x = (col ok256 (b265 x) 1) := by unfold x274; rw [x26_eq]; rfl
theorem x280_eq (x : Vec F S512x4096 .f32) : x280 x = (col ok256 (b265 x) 2) := by unfold x280; rw [x26_eq]; rfl
theorem x286_eq (x : Vec F S512x4096 .f32) : x286 x = (col ok256 (b265 x) 3) := by unfold x286; rw [x26_eq]; rfl
theorem x292_eq (x : Vec F S512x4096 .f32) : x292 x = (col ok256 (b265 x) 4) := by unfold x292; rw [x26_eq]; rfl
theorem x298_eq (x : Vec F S512x4096 .f32) : x298 x = (col ok256 (b265 x) 5) := by unfold x298; rw [x26_eq]; rfl
theorem x304_eq (x : Vec F S512x4096 .f32) : x304 x = (col ok256 (b265 x) 6) := by unfold x304; rw [x26_eq]; rfl
theorem x306_eq (x : Vec F S512x4096 .f32) : x306 x = (cmpf .olt (b265 x) (broadcastTo (Sh 256) (col ok256 (b265 x) 6) ok256.bro)) := by unfold x306; rw [x26_eq]; rfl
theorem x333_eq (x : Vec F S512x4096 .f32) : x333 x = (b333 x) := by unfold x333; rw [x265_eq, x266_eq, x268_eq, x274_eq, x280_eq, x286_eq, x292_eq, x298_eq, x304_eq, x306_eq]; rfl
theorem x335_eq (x : Vec F S512x4096 .f32) : x335 x = (col ok12 (b333 x) 0) := by unfold x335; rw [x265_eq, x266_eq, x268_eq, x274_eq, x280_eq, x286_eq, x292_eq, x298_eq, x304_eq, x306_eq]; rfl
theorem x341_eq (x : Vec F S512x4096 .f32) : x341 x = (col ok12 (b333 x) 1) := by unfold x341; rw [x265_eq, x266_eq, x268_eq, x274_eq, x280_eq, x286_eq, x292_eq, x298_eq, x304_eq, x306_eq]; rfl
theorem x347_eq (x : Vec F S512x4096 .f32) : x347 x = (col ok12 (b333 x) 2) := by unfold x347; rw [x265_eq, x266_eq, x268_eq, x274_eq, x280_eq, x286_eq, x292_eq, x298_eq, x304_eq, x306_eq]; rfl
theorem x351_eq (x : Vec F S512x4096 .f32) : x351 x = (below ok12 (b333 x) (col ok12 (b333 x) 2)) := by unfold x351; rw [x265_eq, x266_eq, x268_eq, x274_eq, x280_eq, x286_eq, x292_eq, x298_eq, x304_eq, x306_eq]; rfl
theorem x379_eq (x : Vec F S512x4096 .f32) : x379 x = (b379 x) := by unfold x379; rw [x262_eq, x333_eq, x335_eq, x341_eq, x347_eq, x351_eq]; rfl
theorem x381_eq (x : Vec F S512x4096 .f32) : x381 x = (col ok24 (b379 x) 0) := by unfold x381; rw [x262_eq, x333_eq, x335_eq, x341_eq, x347_eq, x351_eq]; rfl
theorem x387_eq (x : Vec F S512x4096 .f32) : x387 x = (col ok24 (b379 x) 1) := by unfold x387; rw [x262_eq, x333_eq, x335_eq, x341_eq, x347_eq, x351_eq]; rfl
theorem x393_eq (x : Vec F S512x4096 .f32) : x393 x = (col ok24 (b379 x) 2) := by unfold x393; rw [x262_eq, x333_eq, x335_eq, x341_eq, x347_eq, x351_eq]; rfl
theorem x395_eq (x : Vec F S512x4096 .f32) : x395 x = (cmpf .olt (b379 x) (broadcastTo (Sh 24) (col ok24 (b379 x) 2) ok24.bro)) := by unfold x395; rw [x262_eq, x333_eq, x335_eq, x341_eq, x347_eq, x351_eq]; rfl
theorem x396_eq (x : Vec F S512x4096 .f32) : x396 x = (broadcast (Sh 24) (Scalar.ofBits .f32 0xFF800000#32)) := by unfold x396; rfl
theorem x399_eq (x : Vec F S512x4096 .f32) : x399 x = (col ok24 (b379 x) 3) := by unfold x399; rw [x379_eq, x395_eq, x396_eq]; rfl
theorem x405_eq (x : Vec F S512x4096 .f32) : x405 x = (col ok24 (b379 x) 4) := by unfold x405; rw [x379_eq, x395_eq, x396_eq]; rfl
theorem x411_eq (x : Vec F S512x4096 .f32) : x411 x = (col ok24 (b379 x) 5) := by unfold x411; rw [x379_eq, x395_eq, x396_eq]; rfl
theorem x417_eq (x : Vec F S512x4096 .f32) : x417 x = (col ok24 (b379 x) 6) := by unfold x417; rw [x379_eq, x395_eq, x396_eq]; rfl
theorem x423_eq (x : Vec F S512x4096 .f32) : x423 x = (col ok24 (b379 x) 7) := by unfold x423; rw [x379_eq, x395_eq, x396_eq]; rfl
theorem x429_eq (x : Vec F S512x4096 .f32) : x429 x = (col ok24 (b379 x) 8) := by unfold x429; rw [x379_eq, x395_eq, x396_eq]; rfl
theorem x435_eq (x : Vec F S512x4096 .f32) : x435 x = (col ok24 (b379 x) 9) := by unfold x435; rw [x379_eq, x395_eq, x396_eq]; rfl
theorem x441_eq (x : Vec F S512x4096 .f32) : x441 x = (col ok24 (b379 x) 10) := by unfold x441; rw [x379_eq, x395_eq, x396_eq]; rfl
theorem x472_eq (x : Vec F S512x4096 .f32) : x472 x = (b472 x) := by unfold x472; rw [x379_eq, x381_eq, x387_eq, x393_eq, x399_eq, x405_eq, x411_eq, x417_eq, x423_eq, x429_eq, x435_eq, x441_eq]; rfl
theorem x476_eq (x : Vec F S512x4096 .f32) : x476 x = (b476 x) := by unfold x476; rw [x22_eq]; rfl
theorem x479_eq (x : Vec F S512x4096 .f32) : x479 x = (b479 x) := by unfold x479; rw [x22_eq]; rfl
theorem x480_eq (x : Vec F S512x4096 .f32) : x480 x = (b480 x) := by unfold x480; rw [x22_eq]; rfl
theorem x482_eq (x : Vec F S512x4096 .f32) : x482 x = (col ok256 (b479 x) 0) := by unfold x482; rw [x22_eq]; rfl
theorem x488_eq (x : Vec F S512x4096 .f32) : x488 x = (col ok256 (b479 x) 1) := by unfold x488; rw [x22_eq]; rfl
theorem x525_eq (x : Vec F S512x4096 .f32) : x525 x = (b525 x) := by unfold x525; rw [x479_eq, x482_eq, x488_eq]; rfl
theorem x527_eq (x : Vec F S512x4096 .f32) : x527 x = (col ok256 (b480 x) 0) := by unfold x527; rw [x480_eq]; rfl
theorem x533_eq (x : Vec F S512x4096 .f32) : x533 x = (col ok256 (b480 x) 1) := by unfold x533; rw [x480_eq]; rfl
theorem x547_eq (x : Vec F S512x4096 .f32) : x547 x = (b547 x) := by unfold x547; rw [x480_eq, x525_eq, x527_eq, x533_eq]; rfl
theorem x549_eq (x : Vec F S512x4096 .f32) : x549 x = (col ok12 (b547 x) 0) := by unfold x549; rw [x480_eq, x525_eq, x527_eq, x533_eq]; rfl
theorem x555_eq (x : Vec F S512x4096 .f32) : x555 x = (col ok12 (b547 x) 1) := by unfold x555; rw [x480_eq, x525_eq, x527_eq, x533_eq]; rfl
theorem x561_eq (x : Vec F S512x4096 .f32) : x561 x = (col ok12 (b547 x) 2) := by unfold x561; rw [x480_eq, x525_eq, x527_eq, x533_eq]; rfl
theorem x567_eq (x : Vec F S512x4096 .f32) : x567 x = (col ok12 (b547 x) 3) := by unfold x567; rw [x480_eq, x525_eq, x527_eq, x533_eq]; rfl
theorem x573_eq (x : Vec F S512x4096 .f32) : x573 x = (col ok12 (b547 x) 4) := by unfold x573; rw [x480_eq, x525_eq, x527_eq, x533_eq]; rfl
theorem x578_eq (x : Vec F S512x4096 .f32) : x578 x = (multiReduction .maximumf [1] S512 (below ok12 (b547 x) (col ok12 (b547 x) 4)) 0xFF800000#32 ok12.red (.inl rfl) rfl) := by unfold x578; rw [x480_eq, x525_eq, x527_eq, x533_eq]; rfl
theorem x592_eq (x : Vec F S512x4096 .f32) : x592 x = (b592 x) := by unfold x592; rw [x547_eq, x549_eq, x555_eq, x561_eq, x567_eq, x573_eq, x578_eq]; rfl
theorem x617_eq (x : Vec F S512x4096 .f32) : x617 x = (b617 x) := by unfold x617; rw [x476_eq]; rfl
theorem x619_eq (x : Vec F S512x4096 .f32) : x619 x = (col ok256 (b596 x) 0) := by unfold x619; rw [x476_eq]; rfl
theorem x624_eq (x : Vec F S512x4096 .f32) : x624 x = (multiReduction .maximumf [1] S512 (below ok256 (b596 x) (col ok256 (b596 x) 0)) 0xFF800000#32 ok256.red (.inl rfl) rfl) := by unfold x624; rw [x476_eq]; rfl
theorem x649_eq (x : Vec F S512x4096 .f32) : x649 x = (b649 x) := by unfold x649; rw [x592_eq, x617_eq, x619_eq, x624_eq]; rfl
theorem x651_eq (x : Vec F S512x4096 .f32) : x651 x = (col ok12 (b649 x) 0) := by unfold x651; rw [x592_eq, x617_eq, x619_eq, x624_eq]; rfl
theorem x657_eq (x : Vec F S512x4096 .f32) : x657 x = (col ok12 (b649 x) 1) := by unfold x657; rw [x592_eq, x617_eq, x619_eq, x624_eq]; rfl
theorem x663_eq (x : Vec F S512x4096 .f32) : x663 x = (col ok12 (b649 x) 2) := by unfold x663; rw [x592_eq, x617_eq, x619_eq, x624_eq]; rfl
theorem x669_eq (x : Vec F S512x4096 .f32) : x669 x = (col ok12 (b649 x) 3) := by unfold x669; rw [x592_eq, x617_eq, x619_eq, x624_eq]; rfl
theorem x670_eq (x : Vec F S512x4096 .f32) : x670 x = (broadcastTo (Sh 12) (col ok12 (b649 x) 3) ok12.bro) := by unfold x670; rw [x592_eq, x617_eq, x619_eq, x624_eq]; rfl
theorem x695_eq (x : Vec F S512x4096 .f32) : x695 x = (b695 x) := by unfold x695; rw [x472_eq, x649_eq, x651_eq, x657_eq, x663_eq, x669_eq, x670_eq]; rfl
theorem x697_eq (x : Vec F S512x4096 .f32) : x697 x = (col ok24 (b695 x) 0) := by unfold x697; rw [x472_eq, x649_eq, x651_eq, x657_eq, x663_eq, x669_eq, x670_eq]; rfl
theorem x703_eq (x : Vec F S512x4096 .f32) : x703 x = (col ok24 (b695 x) 1) := by unfold x703; rw [x472_eq, x649_eq, x651_eq, x657_eq, x663_eq, x669_eq, x670_eq]; rfl
theorem x709_eq (x : Vec F S512x4096 .f32) : x709 x = (col ok24 (b695 x) 2) := by unfold x709; rw [x472_eq, x649_eq, x651_eq, x657_eq, x663_eq, x669_eq, x670_eq]; rfl
theorem x715_eq (x : Vec F S512x4096 .f32) : x715 x = (col ok24 (b695 x) 3) := by unfold x715; rw [x472_eq, x649_eq, x651_eq, x657_eq, x663_eq, x669_eq, x670_eq]; rfl
theorem x721_eq (x : Vec F S512x4096 .f32) : x721 x = (col ok24 (b695 x) 4) := by unfold x721; rw [x695_eq, x715_eq]; rfl
theorem x727_eq (x : Vec F S512x4096 .f32) : x727 x = (col ok24 (b695 x) 5) := by unfold x727; rw [x695_eq, x715_eq]; rfl
theorem x733_eq (x : Vec F S512x4096 .f32) : x733 x = (col ok24 (b695 x) 6) := by unfold x733; rw [x695_eq, x715_eq]; rfl
theorem x739_eq (x : Vec F S512x4096 .f32) : x739 x = (col ok24 (b695 x) 7) := by unfold x739; rw [x695_eq, x715_eq]; rfl
theorem x745_eq (x : Vec F S512x4096 .f32) : x745 x = (col ok24 (b695 x) 8) := by unfold x745; rw [x695_eq, x715_eq]; rfl
theorem x751_eq (x : Vec F S512x4096 .f32) : x751 x = (col ok24 (b695 x) 9) := by unfold x751; rw [x695_eq, x715_eq]; rfl
theorem x757_eq (x : Vec F S512x4096 .f32) : x757 x = (col ok24 (b695 x) 10) := by unfold x757; rw [x695_eq, x715_eq]; rfl
theorem x759_eq (x : Vec F S512x4096 .f32) : x759 x = (cmpf .olt (b695 x) (broadcastTo (Sh 24) (col ok24 (b695 x) 10) ok24.bro)) := by unfold x759; rw [x695_eq, x715_eq]; rfl
theorem x760_eq (x : Vec F S512x4096 .f32) : x760 x = (broadcast (Sh 24) (Scalar.ofBits .f32 0xFF800000#32)) := by unfold x760; rfl
theorem x788_eq (x : Vec F S512x4096 .f32) : x788 x = (b788 x) := by unfold x788; rw [x695_eq, x697_eq, x703_eq, x709_eq, x715_eq, x721_eq, x727_eq, x733_eq, x739_eq, x745_eq, x751_eq, x757_eq, x759_eq, x760_eq]; rfl
theorem x792_eq (x : Vec F S512x4096 .f32) : x792 x = (b792 x) := by unfold x792; rw [x18_eq]; rfl
theorem x796_eq (x : Vec F S512x4096 .f32) : x796 x = (b796 x) := by unfold x796; rw [x18_eq]; rfl
theorem x799_eq (x : Vec F S512x4096 .f32) : x799 x = (b799 x) := by unfold x799; rw [x18_eq]; rfl
theorem x800_eq (x : Vec F S512x4096 .f32) : x800 x = (b800 x) := by unfold x800; rw [x18_eq]; rfl
theorem x802_eq (x : Vec F S512x4096 .f32) : x802 x = (col ok256 (b799 x) 0) := by unfold x802; rw [x18_eq]; rfl
theorem x808_eq (x : Vec F S512x4096 .f32) : x808 x = (col ok256 (b799 x) 1) := by unfold x808; rw [x18_eq]; rfl
theorem x845_eq (x : Vec F S512x4096 .f32) : x845 x = (b845 x) := by unfold x845; rw [x799_eq, x802_eq, x808_eq]; rfl
theorem x847_eq (x : Vec F S512x4096 .f32) : x847 x = (col ok256 (b800 x) 0) := by unfold x847; rw [x800_eq]; rfl
theorem x853_eq (x : Vec F S512x4096 .f32) : x853 x = (col ok256 (b800 x) 1) := by unfold x853; rw [x800_eq]; rfl
theorem x867_eq (x : Vec F S512x4096 .f32) : x867 x = (b867 x) := by unfold x867; rw [x800_eq, x845_eq, x847_eq, x853_eq]; rfl
theorem x869_eq (x : Vec F S512x4096 .f32) : x869 x = (col ok12 (b867 x) 0) := by unfold x869; rw [x800_eq, x845_eq, x847_eq, x853_eq]; rfl
theorem x875_eq (x : Vec F S512x4096 .f32) : x875 x = (col ok12 (b867 x) 1) := by unfold x875; rw [x800_eq, x845_eq, x847_eq, x853_eq]; rfl
theorem x881_eq (x : Vec F S512x4096 .f32) : x881 x = (col ok12 (b867 x) 2) := by unfold x881; rw [x800_eq, x845_eq, x847_eq, x853_eq]; rfl
theorem x887_eq (x : Vec F S512x4096 .f32) : x887 x = (col ok12 (b867 x) 3) := by unfold x887; rw [x800_eq, x845_eq, x847_eq, x853_eq]; rfl
theorem x893_eq (x : Vec F S512x4096 .f32) : x893 x = (col ok12 (b867 x) 4) := by unfold x893; rw [x800_eq, x845_eq, x847_eq, x853_eq]; rfl
theorem x898_eq (x : Vec F S512x4096 .f32) : x898 x = (multiReduction .maximumf [1] S512 (below ok12 (b867 x) (col ok12 (b867 x) 4)) 0xFF800000#32 ok12.red (.inl rfl) rfl) := by unfold x898; rw [x800_eq, x845_eq, x847_eq, x853_eq]; rfl
theorem x912_eq (x : Vec F S512x4096 .f32) : x912 x = (b912 x) := by unfold x912; rw [x867_eq, x869_eq, x875_eq, x881_eq, x887_eq, x893_eq, x898_eq]; rfl
theorem x937_eq (x : Vec F S512x4096 .f32) : x937 x = (b937 x) := by unfold x937; rw [x796_eq]; rfl
theorem x939_eq (x : Vec F S512x4096 .f32) : x939 x = (col ok256 (b916 x) 0) := by unfold x939; rw [x796_eq]; rfl
theorem x944_eq (x : Vec F S512x4096 .f32) : x944 x = (multiReduction .maximumf [1] S512 (below ok256 (b916 x) (col ok256 (b916 x) 0)) 0xFF800000#32 ok256.red (.inl rfl) rfl) := by unfold x944; rw [x796_eq]; rfl
theorem x969_eq (x : Vec F S512x4096 .f32) : x969 x = (b969 x) := by unfold x969; rw [x912_eq, x937_eq, x939_eq, x944_eq]; rfl
theorem x971_eq (x : Vec F S512x4096 .f32) : x971 x = (col ok12 (b969 x) 0) := by unfold x971; rw [x912_eq, x937_eq, x939_eq, x944_eq]; rfl
theorem x977_eq (x : Vec F S512x4096 .f32) : x977 x = (col ok12 (b969 x) 1) := by unfold x977; rw [x912_eq, x937_eq, x939_eq, x944_eq]; rfl
theorem x983_eq (x : Vec F S512x4096 .f32) : x983 x = (col ok12 (b969 x) 2) := by unfold x983; rw [x912_eq, x937_eq, x939_eq, x944_eq]; rfl
theorem x989_eq (x : Vec F S512x4096 .f32) : x989 x = (col ok12 (b969 x) 3) := by unfold x989; rw [x912_eq, x937_eq, x939_eq, x944_eq]; rfl
theorem x990_eq (x : Vec F S512x4096 .f32) : x990 x = (broadcastTo (Sh 12) (col ok12 (b969 x) 3) ok12.bro) := by unfold x990; rw [x912_eq, x937_eq, x939_eq, x944_eq]; rfl
theorem x1014_eq (x : Vec F S512x4096 .f32) : x1014 x = (b1014 x) := by unfold x1014; rw [x969_eq, x971_eq, x977_eq, x983_eq, x989_eq, x990_eq]; rfl
theorem x1018_eq (x : Vec F S512x4096 .f32) : x1018 x = (b1018 x) := by unfold x1018; rw [x792_eq]; rfl
theorem x1021_eq (x : Vec F S512x4096 .f32) : x1021 x = (b1021 x) := by unfold x1021; rw [x792_eq]; rfl
theorem x1022_eq (x : Vec F S512x4096 .f32) : x1022 x = (b1022 x) := by unfold x1022; rw [x792_eq]; rfl
theorem x1024_eq (x : Vec F S512x4096 .f32) : x1024 x = (col ok256 (b1021 x) 0) := by unfold x1024; rw [x792_eq]; rfl
theorem x1030_eq (x : Vec F S512x4096 .f32) : x1030 x = (col ok256 (b1021 x) 1) := by unfold x1030; rw [x792_eq]; rfl
theorem x1036_eq (x : Vec F S512x4096 .f32) : x1036 x = (col ok256 (b1021 x) 2) := by unfold x1036; rw [x792_eq]; rfl
theorem x1037_eq (x : Vec F S512x4096 .f32) : x1037 x = (broadcastTo (Sh 256) (col ok256 (b1021 x) 2) ok256.bro) := by unfold x1037; rw [x792_eq]; rfl
theorem x1074_eq (x : Vec F S512x4096 .f32) : x1074 x = (b1074 x) := by unfold x1074; rw [x1021_eq, x1022_eq, x1024_eq, x1030_eq, x1036_eq, x1037_eq]; rfl
theorem x1077_eq (x : Vec F S512x4096 .f32) : x1077 x = (b1077 x) := by unfold x1077; rw [x1018_eq]; rfl
theorem x1078_eq (x : Vec F S512x4096 .f32) : x1078 x = (b1078 x) := by unfold x1078; rw [x1018_eq]; rfl
theorem x1080_eq (x : Vec F S512x4096 .f32) : x1080 x = (col ok256 (b1077 x) 0) := by unfold x1080; rw [x1018_eq]; rfl
theorem x1082_eq (x : Vec F S512x4096 .f32) : x1082 x = (cmpf .olt (b1077 x) (broadcastTo (Sh 256) (col ok256 (b1077 x) 0) ok256.bro)) := by unfold x1082; rw [x1018_eq]; rfl
theorem x1083_eq (x : Vec F S512x4096 .f32) : x1083 x = (broadcast (Sh 256) (Scalar.ofBits .f32 0xFF800000#32)) := by unfold x1083; rfl
theorem x1122_eq (x : Vec F S512x4096 .f32) : x1122 x = (b1122 x) := by unfold x1122; rw [x1014_eq, x1074_eq, x1077_eq, x1078_eq, x1080_eq, x1082_eq, x1083_eq]; rfl
theorem x1124_eq (x : Vec F S512x4096 .f32) : x1124 x = (col ok12 (b1122 x) 0) := by unfold x1124; rw [x1014_eq, x1074_eq, x1077_eq, x1078_eq, x1080_eq, x1082_eq, x1083_eq]; rfl
theorem x1128_eq (x : Vec F S512x4096 .f32) : x1128 x = (below ok12 (b1122 x) (col ok12 (b1122 x) 0)) := by unfold x1128; rw [x1014_eq, x1074_eq, x1077_eq, x1078_eq, x1080_eq, x1082_eq, x1083_eq]; rfl
theorem x1168_eq (x : Vec F S512x4096 .f32) : x1168 x = (b1168 x) := by unfold x1168; rw [x788_eq, x1122_eq, x1124_eq, x1128_eq]; rfl
theorem x1170_eq (x : Vec F S512x4096 .f32) : x1170 x = (col ok24 (b1168 x) 0) := by unfold x1170; rw [x788_eq, x1122_eq, x1124_eq, x1128_eq]; rfl
theorem x1174_eq (x : Vec F S512x4096 .f32) : x1174 x = (below ok24 (b1168 x) (col ok24 (b1168 x) 0)) := by unfold x1174; rw [x788_eq, x1122_eq, x1124_eq, x1128_eq]; rfl
theorem x1176_eq (x : Vec F S512x4096 .f32) : x1176 x = (col ok24 (b1168 x) 1) := by unfold x1176; rw [x1174_eq]; rfl
theorem x1182_eq (x : Vec F S512x4096 .f32) : x1182 x = (col ok24 (b1168 x) 2) := by unfold x1182; rw [x1168_eq, x1174_eq]; rfl
theorem x1188_eq (x : Vec F S512x4096 .f32) : x1188 x = (col ok24 (b1168 x) 3) := by unfold x1188; rw [x1168_eq, x1174_eq]; rfl
theorem x1194_eq (x : Vec F S512x4096 .f32) : x1194 x = (col ok24 (b1168 x) 4) := by unfold x1194; rw [x1168_eq, x1174_eq]; rfl
theorem x1200_eq (x : Vec F S512x4096 .f32) : x1200 x = (col ok24 (b1168 x) 5) := by unfold x1200; rw [x1168_eq, x1174_eq]; rfl
theorem x1206_eq (x : Vec F S512x4096 .f32) : x1206 x = (col ok24 (b1168 x) 6) := by unfold x1206; rw [x1168_eq, x1174_eq]; rfl
theorem x1212_eq (x : Vec F S512x4096 .f32) : x1212 x = (col ok24 (b1168 x) 7) := by unfold x1212; rw [x1168_eq, x1174_eq]; rfl
theorem x1218_eq (x : Vec F S512x4096 .f32) : x1218 x = (col ok24 (b1168 x) 8) := by unfold x1218; rw [x1168_eq, x1174_eq]; rfl
theorem x1219_eq (x : Vec F S512x4096 .f32) : x1219 x = (broadcastTo (Sh 24) (col ok24 (b1168 x) 8) ok24.bro) := by unfold x1219; rw [x1168_eq, x1174_eq]; rfl
theorem x1261_eq (x : Vec F S512x4096 .f32) : x1261 x = (b1261 x) := by unfold x1261; rw [x1168_eq, x1170_eq, x1176_eq, x1182_eq, x1188_eq, x1194_eq, x1200_eq, x1206_eq, x1212_eq, x1218_eq, x1219_eq]; rfl
theorem C0_eq (x : Vec F S512x4096 .f32) : C0 x = (b1264 x) := by unfold C0; rw [x1261_eq]; rfl
theorem m1286_eq (a : Vec F S512x16 .f32) (b : Vec F S1x512x16 .f32) : m1286 a b = (b1286 a b) := by unfold m1286; rfl
theorem m1288_eq (a : Vec F S512x16 .f32) (b : Vec F S1x512x16 .f32) : m1288 a b = (col ok32 (b1286 a b) 0) := by unfold m1288; rfl
theorem m1292_eq (a : Vec F S512x16 .f32) (b : Vec F S1x512x16 .f32) : m1292 a b = (below ok32 (b1286 a b) (col ok32 (b1286 a b) 0)) := by unfold m1292; rfl
theorem m1294_eq (a : Vec F S512x16 .f32) (b : Vec F S1x512x16 .f32) : m1294 a b = (col ok32 (b1286 a b) 1) := by unfold m1294; rw [m1292_eq]; rfl
theorem m1300_eq (a : Vec F S512x16 .f32) (b : Vec F S1x512x16 .f32) : m1300 a b = (col ok32 (b1286 a b) 2) := by unfold m1300; rw [m1286_eq, m1292_eq]; rfl
theorem m1306_eq (a : Vec F S512x16 .f32) (b : Vec F S1x512x16 .f32) : m1306 a b = (col ok32 (b1286 a b) 3) := by unfold m1306; rw [m1286_eq, m1292_eq]; rfl
theorem m1312_eq (a : Vec F S512x16 .f32) (b : Vec F S1x512x16 .f32) : m1312 a b = (col ok32 (b1286 a b) 4) := by unfold m1312; rw [m1286_eq, m1292_eq]; rfl
theorem m1318_eq (a : Vec F S512x16 .f32) (b : Vec F S1x512x16 .f32) : m1318 a b = (col ok32 (b1286 a b) 5) := by unfold m1318; rw [m1286_eq, m1292_eq]; rfl
theorem m1324_eq (a : Vec F S512x16 .f32) (b : Vec F S1x512x16 .f32) : m1324 a b = (col ok32 (b1286 a b) 6) := by unfold m1324; rw [m1286_eq, m1292_eq]; rfl
theorem m1330_eq (a : Vec F S512x16 .f32) (b : Vec F S1x512x16 .f32) : m1330 a b = (col ok32 (b1286 a b) 7) := by unfold m1330; rw [m1286_eq, m1292_eq]; rfl
theorem m1336_eq (a : Vec F S512x16 .f32) (b : Vec F S1x512x16 .f32) : m1336 a b = (col ok32 (b1286 a b) 8) := by unfold m1336; rw [m1286_eq, m1292_eq]; rfl
theorem m1337_eq (a : Vec F S512x16 .f32) (b : Vec F S1x512x16 .f32) : m1337 a b = (broadcastTo (Sh 32) (col ok32 (b1286 a b) 8) ok32.bro) := by unfold m1337; rw [m1286_eq, m1292_eq]; rfl
theorem m1379_eq (a : Vec F S512x16 .f32) (b : Vec F S1x512x16 .f32) : m1379 a b = (b1379 a b) := by unfold m1379; rw [m1286_eq, m1288_eq, m1294_eq, m1300_eq, m1306_eq, m1312_eq, m1318_eq, m1324_eq, m1330_eq, m1336_eq, m1337_eq]; rfl
theorem MG0_eq (a : Vec F S512x16 .f32) (b : Vec F S1x512x16 .f32) : MG0 a b = (b1382 a b) := by unfold MG0; rw [m1379_eq]; rfl
theorem m1404_eq (a : Vec F S512x16 .f32) (b : Vec F S1x512x16 .f32) : m1404 a b = (b1404 a b) := by unfold m1404; rfl
theorem m1406_eq (a : Vec F S512x16 .f32) (b : Vec F S1x512x16 .f32) : m1406 a b = (col ok32 (b1404 a b) 0) := by unfold m1406; rfl
theorem m1410_eq (a : Vec F S512x16 .f32) (b : Vec F S1x512x16 .f32) : m1410 a b = (below ok32 (b1404 a b) (col ok32 (b1404 a b) 0)) := by unfold m1410; rfl
theorem m1412_eq (a : Vec F S512x16 .f32) (b : Vec F S1x512x16 .f32) : m1412 a b = (col ok32 (b1404 a b) 1) := by unfold m1412; rw [m1410_eq]; rfl
theorem m1418_eq (a : Vec F S512x16 .f32) (b : Vec F S1x512x16 .f32) : m1418 a b = (col ok32 (b1404 a b) 2) := by unfold m1418; rw [m1404_eq, m1410_eq]; rfl
theorem m1424_eq (a : Vec F S512x16 .f32) (b : Vec F S1x512x16 .f32) : m1424 a b = (col ok32 (b1404 a b) 3) := by unfold m1424; rw [m1404_eq, m1410_eq]; rfl
theorem m1430_eq (a : Vec F S512x16 .f32) (b : Vec F S1x512x16 .f32) : m1430 a b = (col ok32 (b1404 a b) 4) := by unfold m1430; rw [m1404_eq, m1410_eq]; rfl
theorem m1436_eq (a : Vec F S512x16 .f32) (b : Vec F S1x512x16 .f32) : m1436 a b = (col ok32 (b1404 a b) 5) := by unfold m1436; rw [m1404_eq, m1410_eq]; rfl
theorem m1442_eq (a : Vec F S512x16 .f32) (b : Vec F S1x512x16 .f32) : m1442 a b = (col ok32 (b1404 a b) 6) := by unfold m1442; rw [m1404_eq, m1410_eq]; rfl
theorem m1448_eq (a : Vec F S512x16 .f32) (b : Vec F S1x512x16 .f32) : m1448 a b = (col ok32 (b1404 a b) 7) := by unfold m1448; rw [m1404_eq, m1410_eq]; rfl
theorem m1454_eq (a : Vec F S512x16 .f32) (b : Vec F S1x512x16 .f32) : m1454 a b = (col ok32 (b1404 a b) 8) := by unfold m1454; rw [m1404_eq, m1410_eq]; rfl
theorem m1455_eq (a : Vec F S512x16 .f32) (b : Vec F S1x512x16 .f32) : m1455 a b = (broadcastTo (Sh 32) (col ok32 (b1404 a b) 8) ok32.bro) := by unfold m1455; rw [m1404_eq, m1410_eq]; rfl
theorem m1497_eq (a : Vec F S512x16 .f32) (b : Vec F S1x512x16 .f32) : m1497 a b = (b1497 a b) := by unfold m1497; rw [m1404_eq, m1406_eq, m1412_eq, m1418_eq, m1424_eq, m1430_eq, m1436_eq, m1442_eq, m1448_eq, m1454_eq, m1455_eq]; rfl
theorem MG1_eq (a : Vec F S512x16 .f32) (b : Vec F S1x512x16 .f32) : MG1 a b = (b1500 a b) := by unfold MG1; rw [m1497_eq]; rfl
theorem m1522_eq (a : Vec F S512x16 .f32) (b : Vec F S1x512x16 .f32) : m1522 a b = (b1522 a b) := by unfold m1522; rfl
theorem m1524_eq (a : Vec F S512x16 .f32) (b : Vec F S1x512x16 .f32) : m1524 a b = (col ok32 (b1522 a b) 0) := by unfold m1524; rfl
theorem m1528_eq (a : Vec F S512x16 .f32) (b : Vec F S1x512x16 .f32) : m1528 a b = (below ok32 (b1522 a b) (col ok32 (b1522 a b) 0)) := by unfold m1528; rfl
theorem m1530_eq (a : Vec F S512x16 .f32) (b : Vec F S1x512x16 .f32) : m1530 a b = (col ok32 (b1522 a b) 1) := by unfold m1530; rw [m1528_eq]; rfl
theorem m1536_eq (a : Vec F S512x16 .f32) (b : Vec F S1x512x16 .f32) : m1536 a b = (col ok32 (b1522 a b) 2) := by unfold m1536; rw [m1522_eq, m1528_eq]; rfl
theorem m1542_eq (a : Vec F S512x16 .f32) (b : Vec F S1x512x16 .f32) : m1542 a b = (col ok32 (b1522 a b) 3) := by unfold m1542; rw [m1522_eq, m1528_eq]; rfl
theorem m1548_eq (a : Vec F S512x16 .f32) (b : Vec F S1x512x16 .f32) : m1548 a b = (col ok32 (b1522 a b) 4) := by unfold m1548; rw [m1522_eq, m1528_eq]; rfl
theorem m1554_eq (a : Vec F S512x16 .f32) (b : Vec F S1x512x16 .f32) : m1554 a b = (col ok32 (b1522 a b) 5) := by unfold m1554; rw [m1522_eq, m1528_eq]; rfl
theorem m1560_eq (a : Vec F S512x16 .f32) (b : Vec F S1x512x16 .f32) : m1560 a b = (col ok32 (b1522 a b) 6) := by unfold m1560; rw [m1522_eq, m1528_eq]; rfl
theorem m1566_eq (a : Vec F S512x16 .f32) (b : Vec F S1x512x16 .f32) : m1566 a b = (col ok32 (b1522 a b) 7) := by unfold m1566; rw [m1522_eq, m1528_eq]; rfl
theorem m1572_eq (a : Vec F S512x16 .f32) (b : Vec F S1x512x16 .f32) : m1572 a b = (col ok32 (b1522 a b) 8) := by unfold m1572; rw [m1522_eq, m1528_eq]; rfl
theorem m1573_eq (a : Vec F S512x16 .f32) (b : Vec F S1x512x16 .f32) : m1573 a b = (broadcastTo (Sh 32) (col ok32 (b1522 a b) 8) ok32.bro) := by unfold m1573; rw [m1522_eq, m1528_eq]; rfl
theorem m1615_eq (a : Vec F S512x16 .f32) (b : Vec F S1x512x16 .f32) : m1615 a b = (b1615 a b) := by unfold m1615; rw [m1522_eq, m1524_eq, m1530_eq, m1536_eq, m1542_eq, m1548_eq, m1554_eq, m1560_eq, m1566_eq, m1572_eq, m1573_eq]; rfl
theorem MG2_eq (a : Vec F S512x16 .f32) (b : Vec F S1x512x16 .f32) : MG2 a b = (b1618 a b) := by unfold MG2; rw [m1615_eq]; rfl

end

end Cert.KernelIdeal.Val

end
-- ==== Proof.Rows.lean ====
/- What the body keeps of each row: the first sixteen values of the row, as far as they are at a value above which no two
   entries are equal, and in a round the first sixteen of what the device and its peer hold. -/
module

public import proofs.«01_k».proof.Proof.Clean

@[expose] public section

noncomputable section

namespace Cert.KernelIdeal.Val

open Idealize.ShloMosaic Idealize.SL.Sem Cert.KernelIdeal Cert.KernelIdeal.Gen Cert.Columns Cert.Rank

theorem cast_self {S : Shape} (v : FVec Ideal S .f32) (h : S.ShapeCasts S) : shapeCast S v h = v :=
  funext fun i => shapeCast_apply v h i i rfl

section Block

variable {x : Vec Ideal S512x4096 .f32} {i : Fin 512} {θ : EReal}

theorem r14 (h : RowInj θ x i) : RowInj θ (b14 x) i := by
  unfold b14; rw [cast_self]; exact h
theorem r17 (h : RowInj θ x i) : RowInj θ (b17 x) i := RowInj.maxHalf (by norm_num) slices_S512x4096_o0_0_S512x2048 slices_S512x4096_o0_2048_S512x2048 (r14 h)
theorem r18 (h : RowInj θ x i) : RowInj θ (b18 x) i := RowInj.minHalf (by norm_num) slices_S512x4096_o0_0_S512x2048 slices_S512x4096_o0_2048_S512x2048 (r14 h)
theorem r21 (h : RowInj θ x i) : RowInj θ (b21 x) i := RowInj.maxHalf (by norm_num) slices_S512x2048_o0_0_S512x1024 slices_S512x2048_o0_1024_S512x1024 (r17 h)
theorem r22 (h : RowInj θ x i) : RowInj θ (b22 x) i := RowInj.minHalf (by norm_num) slices_S512x2048_o0_0_S512x1024 slices_S512x2048_o0_1024_S512x1024 (r17 h)
theorem r25 (h : RowInj θ x i) : RowInj θ (b25 x) i := RowInj.maxHalf (by norm_num) slices_S512x1024_o0_0_S512x512 slices_S512x1024_o0_512_S512x512 (r21 h)
theorem r26 (h : RowInj θ x i) : RowInj θ (b26 x) i := RowInj.minHalf (by norm_num) slices_S512x1024_o0_0_S512x512 slices_S512x1024_o0_512_S512x512 (r21 h)
theorem r29 (h : RowInj θ x i) : RowInj θ (b29 x) i := RowInj.maxHalf (by norm_num) slices_S512x512_o0_0_S512x256 slices_S512x512_o0_256_S512x256 (r25 h)
theorem r30 (h : RowInj θ x i) : RowInj θ (b30 x) i := RowInj.minHalf (by norm_num) slices_S512x512_o0_0_S512x256 slices_S512x512_o0_256_S512x256 (r25 h)
theorem t123 : IsTop θ (b123 x) i (rowSet (b29 x) i) := isTop_topk _ _ _ _ _
theorem t168 : IsTop θ (b168 x) i (rowSet (b30 x) i) := isTop_topk _ _ _ _ _
theorem t262 (h : RowInj θ x i) : IsTop θ (b262 x) i (rowSet (b25 x) i) :=
  isTop_node (by norm_num) (by norm_num) (by norm_num) slices_S512x512_o0_0_S512x256 slices_S512x512_o0_256_S512x256 _ _ _ (r25 h) t123 t168
theorem r265 (h : RowInj θ x i) : RowInj θ (b265 x) i := RowInj.maxHalf (by norm_num) slices_S512x512_o0_0_S512x256 slices_S512x512_o0_256_S512x256 (r26 h)
theorem r266 (h : RowInj θ x i) : RowInj θ (b266 x) i := RowInj.minHalf (by norm_num) slices_S512x512_o0_0_S512x256 slices_S512x512_o0_256_S512x256 (r26 h)
theorem t311 : IsTop θ (b311 x) i (rowSet (b265 x) i) := isTop_topk _ _ _ _ _
theorem t332 : IsTop θ (b332 x) i (rowSet (b266 x) i) := isTop_topk _ _ _ _ _
theorem t378 (h : RowInj θ x i) : IsTop θ (b378 x) i (rowSet (b26 x) i) :=
  isTop_node (by norm_num) (by norm_num) (by norm_num) slices_S512x512_o0_0_S512x256 slices_S512x512_o0_256_S512x256 _ _ _ (r26 h) t311 t332
theorem t472 (h : RowInj θ x i) : IsTop θ (b472 x) i (rowSet (b21 x) i) :=
  isTop_node (by norm_num) (by norm_num) (by norm_num) slices_S512x1024_o0_0_S512x512 slices_S512x1024_o0_512_S512x512 _ _ _ (r21 h) (t262 h) (t378 h)
theorem r475 (h : RowInj θ x i) : RowInj θ (b475 x) i := RowInj.maxHalf (by norm_num) slices_S512x1024_o0_0_S512x512 slices_S512x1024_o0_512_S512x512 (r22 h)
theorem r476 (h : RowInj θ x i) : RowInj θ (b476 x) i := RowInj.minHalf (by norm_num) slices_S512x1024_o0_0_S512x512 slices_S512x1024_o0_512_S512x512 (r22 h)
theorem r479 (h : RowInj θ x i) : RowInj θ (b479 x) i := RowInj.maxHalf (by norm_num) slices_S512x512_o0_0_S512x256 slices_S512x512_o0_256_S512x256 (r475 h)
theorem r480 (h : RowInj θ x i) : RowInj θ (b480 x) i := RowInj.minHalf (by norm_num) slices_S512x512_o0_0_S512x256 slices_S512x512_o0_256_S512x256 (r475 h)
theorem t525 : IsTop θ (b525 x) i (rowSet (b479 x) i) := isTop_topk _ _ _ _ _
theorem t546 : IsTop θ (b546 x) i (rowSet (b480 x) i) := isTop_topk _ _ _ _ _
theorem t592 (h : RowInj θ x i) : IsTop θ (b592 x) i (rowSet (b475 x) i) :=
  isTop_node (by norm_num) (by norm_num) (by norm_num) slices_S512x512_o0_0_S512x256 slices_S512x512_o0_256_S512x256 _ _ _ (r475 h) t525 t546
theorem r595 (h : RowInj θ x i) : RowInj θ (b595 x) i := RowInj.maxHalf (by norm_num) slices_S512x512_o0_0_S512x256 slices_S512x512_o0_256_S512x256 (r476 h)
theorem r596 (h : RowInj θ x i) : RowInj θ (b596 x) i := RowInj.minHalf (by norm_num) slices_S512x512_o0_0_S512x256 slices_S512x512_o0_256_S512x256 (r476 h)
theorem t617 : IsTop θ (b617 x) i (rowSet (b595 x) i) := isTop_topk _ _ _ _ _
theorem t626 : IsTop θ (b626 x) i (rowSet (b596 x) i) := isTop_topk _ _ _ _ _
theorem t648 (h : RowInj θ x i) : IsTop θ (b648 x) i (rowSet (b476 x) i) :=
  isTop_node (by norm_num) (by norm_num) (by norm_num) slices_S512x512_o0_0_S512x256 slices_S512x512_o0_256_S512x256 _ _ _ (r476 h) t617 t626
theorem t694 (h : RowInj θ x i) : IsTop θ (b694 x) i (rowSet (b22 x) i) :=
  isTop_node (by norm_num) (by norm_num) (by norm_num) slices_S512x1024_o0_0_S512x512 slices_S512x1024_o0_512_S512x512 _ _ _ (r22 h) (t592 h) (t648 h)
theorem t788 (h : RowInj θ x i) : IsTop θ (b788 x) i (rowSet (b17 x) i) :=
  isTop_node (by norm_num) (by norm_num) (by norm_num) slices_S512x2048_o0_0_S512x1024 slices_S512x2048_o0_1024_S512x1024 _ _ _ (r17 h) (t472 h) (t694 h)
theorem r791 (h : RowInj θ x i) : RowInj θ (b791 x) i := RowInj.maxHalf (by norm_num) slices_S512x2048_o0_0_S512x1024 slices_S512x2048_o0_1024_S512x1024 (r18 h)
theorem r792 (h : RowInj θ x i) : RowInj θ (b792 x) i := RowInj.minHalf (by norm_num) slices_S512x2048_o0_0_S512x1024 slices_S512x2048_o0_1024_S512x1024 (r18 h)
theorem r795 (h : RowInj θ x i) : RowInj θ (b795 x) i := RowInj.maxHalf (by norm_num) slices_S512x1024_o0_0_S512x512 slices_S512x1024_o0_512_S512x512 (r791 h)
theorem r796 (h : RowInj θ x i) : RowInj θ (b796 x) i := RowInj.minHalf (by norm_num) slices_S512x1024_o0_0_S512x512 slices_S512x1024_o0_512_S512x512 (r791 h)
theorem r799 (h : RowInj θ x i) : RowInj θ (b799 x) i := RowInj.maxHalf (by norm_num) slices_S512x512_o0_0_S512x256 slices_S512x512_o0_256_S512x256 (r795 h)
theorem r800 (h : RowInj θ x i) : RowInj θ (b800 x) i := RowInj.minHalf (by norm_num) slices_S512x512_o0_0_S512x256 slices_S512x512_o0_256_S512x256 (r795 h)
theorem t845 : IsTop θ (b845 x) i (rowSet (b799 x) i) := isTop_topk _ _ _ _ _
theorem t866 : IsTop θ (b866 x) i (rowSet (b800 x) i) := isTop_topk _ _ _ _ _
theorem t912 (h : RowInj θ x i) : IsTop θ (b912 x) i (rowSet (b795 x) i) :=
  isTop_node (by norm_num) (by norm_num) (by norm_num) slices_S512x512_o0_0_S512x256 slices_S512x512_o0_256_S512x256 _ _ _ (r795 h) t845 t866
theorem r915 (h : RowInj θ x i) : RowInj θ (b915 x) i := RowInj.maxHalf (by norm_num) slices_S512x512_o0_0_S512x256 slices_S512x512_o0_256_S512x256 (r796 h)
theorem r916 (h : RowInj θ x i) : RowInj θ (b916 x) i := RowInj.minHalf (by norm_num) slices_S512x512_o0_0_S512x256 slices_S512x512_o0_256_S512x256 (r796 h)
theorem t937 : IsTop θ (b937 x) i (rowSet (b915 x) i) := isTop_topk _ _ _ _ _
theorem t946 : IsTop θ (b946 x) i (rowSet (b916 x) i) := isTop_topk _ _ _ _ _
theorem t968 (h : RowInj θ x i) : IsTop θ (b968 x) i (rowSet (b796 x) i) :=
  isTop_node (by norm_num) (by norm_num) (by norm_num) slices_S512x512_o0_0_S512x256 slices_S512x512_o0_256_S512x256 _ _ _ (r796 h) t937 t946
theorem t1014 (h : RowInj θ x i) : IsTop θ (b1014 x) i (rowSet (b791 x) i) :=
  isTop_node (by norm_num) (by norm_num) (by norm_num) slices_S512x1024_o0_0_S512x512 slices_S512x1024_o0_512_S512x512 _ _ _ (r791 h) (t912 h) (t968 h)
theorem r1017 (h : RowInj θ x i) : RowInj θ (b1017 x) i := RowInj.maxHalf (by norm_num) slices_S512x1024_o0_0_S512x512 slices_S512x1024_o0_512_S512x512 (r792 h)
theorem r1018 (h : RowInj θ x i) : RowInj θ (b1018 x) i := RowInj.minHalf (by norm_num) slices_S512x1024_o0_0_S512x512 slices_S512x1024_o0_512_S512x512 (r792 h)
theorem r1021 (h : RowInj θ x i) : RowInj θ (b1021 x) i := RowInj.maxHalf (by norm_num) slices_S512x512_o0_0_S512x256 slices_S512x512_o0_256_S512x256 (r1017 h)
theorem r1022 (h : RowInj θ x i) : RowInj θ (b1022 x) i := RowInj.minHalf (by norm_num) slices_S512x512_o0_0_S512x256 slices_S512x512_o0_256_S512x256 (r1017 h)
theorem t1043 : IsTop θ (b1043 x) i (rowSet (b1021 x) i) := isTop_topk _ _ _ _ _
theorem t1052 : IsTop θ (b1052 x) i (rowSet (b1022 x) i) := isTop_topk _ _ _ _ _
theorem t1074 (h : RowInj θ x i) : IsTop θ (b1074 x) i (rowSet (b1017 x) i) :=
  isTop_node (by norm_num) (by norm_num) (by norm_num) slices_S512x512_o0_0_S512x256 slices_S512x512_o0_256_S512x256 _ _ _ (r1017 h) t1043 t1052
theorem r1077 (h : RowInj θ x i) : RowInj θ (b1077 x) i := RowInj.maxHalf (by norm_num) slices_S512x512_o0_0_S512x256 slices_S512x512_o0_256_S512x256 (r1018 h)
theorem r1078 (h : RowInj θ x i) : RowInj θ (b1078 x) i := RowInj.minHalf (by norm_num) slices_S512x512_o0_0_S512x256 slices_S512x512_o0_256_S512x256 (r1018 h)
theorem t1087 : IsTop θ (b1087 x) i (rowSet (b1077 x) i) := isTop_topk _ _ _ _ _
theorem t1099 (h : RowInj θ x i) : IsTop θ (b1099 x) i (rowSet (b1018 x) i) :=
  isTop_node (by norm_num) (by norm_num) (by norm_num) slices_S512x512_o0_0_S512x256 slices_S512x512_o0_256_S512x256 _ _ _ (r1018 h) t1087 (isTop_rowMax ok256 (b1078 x) i)
theorem t1121 (h : RowInj θ x i) : IsTop θ (b1121 x) i (rowSet (b792 x) i) :=
  isTop_node (by norm_num) (by norm_num) (by norm_num) slices_S512x1024_o0_0_S512x512 slices_S512x1024_o0_512_S512x512 _ _ _ (r792 h) (t1074 h) (t1099 h)
theorem t1167 (h : RowInj θ x i) : IsTop θ (b1167 x) i (rowSet (b18 x) i) :=
  isTop_node (by norm_num) (by norm_num) (by norm_num) slices_S512x2048_o0_0_S512x1024 slices_S512x2048_o0_1024_S512x1024 _ _ _ (r18 h) (t1014 h) (t1121 h)
theorem t1261 (h : RowInj θ x i) : IsTop θ (b1261 x) i (rowSet (b14 x) i) :=
  isTop_node (by norm_num) (by norm_num) (by norm_num) slices_S512x4096_o0_0_S512x2048 slices_S512x4096_o0_2048_S512x2048 _ _ _ (r14 h) (t788 h) (t1167 h)

/-- A device's own candidates: the first sixteen values of each row of its block, as far as they are at `θ` or above,
    where no two entries above `θ` are equal. -/
theorem C0_top (h : RowInj θ x i) : IsTop θ (C0 x) i (rowSet x i) := by
  have ht := t1261 h
  rw [C0_eq]; unfold b1264; rw [cast_self]
  unfold b14 at ht; rw [cast_self] at ht
  exact ht

end Block

section Round

variable {a p : FVec Ideal S512x16 .f32} {b : Vec Ideal S1x512x16 .f32} {i : Fin 512} {θ : EReal} {A B : Finset EReal}

/-- Round 0: what the device and its peer hold, merged. -/
theorem MG0_top (ha : IsTop θ a i A) (hb : IsTop θ (shapeCast S512x16 b shapeCasts_S1x512x16_S512x16) i B) : IsTop θ (MG0 a b) i (A ∪ B) := by
  rw [MG0_eq]; unfold b1382; rw [cast_self]
  exact isTop_merge (by norm_num) _ _ _ ha hb

/-- Round 1: what the device and its peer hold, merged. -/
theorem MG1_top (ha : IsTop θ a i A) (hb : IsTop θ (shapeCast S512x16 b shapeCasts_S1x512x16_S512x16) i B) : IsTop θ (MG1 a b) i (A ∪ B) := by
  rw [MG1_eq]; unfold b1500; rw [cast_self]
  exact isTop_merge (by norm_num) _ _ _ ha hb

/-- Round 2: what the device and its peer hold, merged. -/
theorem MG2_top (ha : IsTop θ a i A) (hb : IsTop θ (shapeCast S512x16 b shapeCasts_S1x512x16_S512x16) i B) : IsTop θ (MG2 a b) i (A ∪ B) := by
  rw [MG2_eq]; unfold b1618; rw [cast_self]
  exact isTop_merge (by norm_num) _ _ _ ha hb

end Round

end Cert.KernelIdeal.Val

end
-- ==== Proof.Sorted.lean ====
/- A row sorted by the programs' comparators, over the extended reals: the sorting permutation puts the row in order, where
   the first entries in falling order differ they are the row's first values, and a descending list whose entries above the
   bottom are all different lists the first values of its set. -/
module

public import proofs.«01_k».proof.Proof.Halving
public import Idealize.ShloMosaic.Lib.SortFacts
public import Idealize.ShloMosaic.Lib.StableHlo.Predicate

@[expose] public section

noncomputable section

namespace Cert.Sorted

open Idealize.ShloMosaic Idealize.SL.Sem
open Cert.Rank Cert.Columns

section Place

variable {N : ℕ} (v : Fin N → EReal)

/-- The position whose entry an ascending sort of `v` puts at each place. -/
def place : Fin N → Fin N := sortedFrom fun k k' => decide (v k < v k')

theorem place_inj : Function.Injective (place v) := sortedFrom_injective _
theorem place_surj : Function.Surjective (place v) := sortedFrom_surjective _

/-- Sorted, an earlier entry is at most a later one. -/
theorem place_le {i j : Fin N} (h : i < j) : v (place v i) ≤ v (place v j) := by
  have := sortedFrom_noInversion (fun k k' => decide (v k < v k')) (fun k k' => decide (v k < v k'))
    (fun a b h => by simp only [decide_eq_true_eq, decide_eq_false_iff_not] at h ⊢; exact not_lt.2 h.le) (fun _ _ h => h)
    (fun a b c h h' => by simp only [decide_eq_false_iff_not, not_lt] at h h' ⊢; exact h'.trans h) i j h
  simp only [decide_eq_false_iff_not, not_lt] at this
  exact this

/-- The position whose entry a descending sort of `v` puts at each place. -/
def order (k : Fin N) : Fin N := place (fun k => -v k) k

theorem order_inj : Function.Injective (order v) := place_inj _
theorem order_surj : Function.Surjective (order v) := place_surj _

/-- In falling order, a later entry is at most an earlier one. -/
theorem order_le {i j : Fin N} (h : i ≤ j) : v (order v j) ≤ v (order v i) := by
  rcases eq_or_lt_of_le h with rfl | h
  · exact le_rfl
  · exact EReal.neg_le_neg_iff.1 (place_le (fun k => -v k) h)

section Top

variable {v} {j : Fin N} (h : ∀ k : Fin N, ∀ hk : k.val + 1 < N, k < j → v (order v ⟨k.val + 1, hk⟩) < v (order v k))

include h in
/-- Where the first entries in falling order differ, each is above the later ones. -/
theorem order_lt {a b : Fin N} (hab : a < b) (ha : a < j) : v (order v b) < v (order v a) := by
  have hk : a.val + 1 < N := by have := b.isLt; have : a.val < b.val := hab; omega
  exact (order_le v (show (⟨a.val + 1, hk⟩ : Fin N) ≤ b from Nat.succ_le_of_lt hab)).trans_lt (h a hk ha)

theorem lt_of_above {a : Fin N} (ha : v (order v j) < v (order v a)) : a < j := by
  by_contra hc
  exact absurd (order_le v (not_lt.1 hc)) (not_le.2 ha)

include h in
/-- Where the first entries in falling order differ, no two entries above the last of them are equal. -/
theorem inj_of_top (a b : Fin N) (e : v a = v b) (ha : v (order v j) < v a) : a = b := by
  obtain ⟨a, rfl⟩ := order_surj v a
  obtain ⟨b, rfl⟩ := order_surj v b
  have hb := lt_of_above (e ▸ ha)
  replace ha := lt_of_above ha
  rcases lt_trichotomy a b with hab | hab | hab
  · exact absurd e (order_lt h hab ha).ne'
  · rw [hab]
  · exact absurd e (order_lt h hab hb).ne

include h in
/-- Where the first entries in falling order differ, they are the first values of the row. -/
theorem nth_of_top : nth (Finset.univ.image v) j.val = v (order v j) := by
  refine nth_of_rk (Finset.mem_image_of_mem _ (Finset.mem_univ _)) ?_
  have hs : (Finset.univ.image v).filter (v (order v j) < ·) = (Finset.Iio j).image fun a => v (order v a) := by
    ext s
    simp only [Finset.mem_filter, Finset.mem_image, Finset.mem_univ, true_and, Finset.mem_Iio]
    constructor
    · rintro ⟨⟨a, rfl⟩, hl⟩
      obtain ⟨a, rfl⟩ := order_surj v a
      exact ⟨a, lt_of_above hl, rfl⟩
    · rintro ⟨a, ha, rfl⟩
      exact ⟨⟨_, rfl⟩, order_lt h ha ha⟩
  unfold rk
  rw [hs, Finset.card_image_of_injOn, Fin.card_Iio]
  intro a ha b hb e
  rw [Finset.coe_Iio, Set.mem_Iio] at ha hb
  rcases lt_trichotomy a b with hab | hab | hab
  · exact absurd e (order_lt h hab ha).ne'
  · exact hab
  · exact absurd e (order_lt h hab hb).ne

end Top

end Place

/-- A descending list whose entries above the bottom are all different, and are `S`'s, lists the first values of `S`. -/
theorem nth_of_descending {N : ℕ} (S : Finset EReal) (w : Fin N → EReal) (hd : ∀ i j, i < j → w j ≤ w i)
    (hi : ∀ i j, w i = w j → w i ≠ ⊥ → i = j) (hS : ∀ s ∈ S, ∃ i, w i = s) (hw : ∀ i, w i ≠ ⊥ → w i ∈ S) (j : Fin N) :
    w j = nth S j.val := by
  have hlt : ∀ a b, w a ≠ ⊥ → (w a < w b ↔ b < a) := fun a b ha => by
    constructor
    · intro h
      rcases lt_trichotomy a b with hab | hab | hab
      · exact absurd h (not_lt.2 (hd a b hab))
      · subst hab; exact absurd h (lt_irrefl _)
      · exact hab
    · intro h
      refine lt_of_le_of_ne (hd b a h) fun e => ?_
      exact absurd (hi a b e ha) (ne_of_gt h)
  have hrk : ∀ a, w a ≠ ⊥ → rk S (w a) = a.val := fun a ha => by
    unfold rk
    have : S.filter (w a < ·) = (Finset.Iio a).image w := by
      ext s
      simp only [Finset.mem_filter, Finset.mem_image, Finset.mem_Iio]
      constructor
      · rintro ⟨hs, hl⟩
        obtain ⟨b, rfl⟩ := hS s hs
        exact ⟨b, (hlt a b ha).1 hl, rfl⟩
      · rintro ⟨b, hb, rfl⟩
        have hl := (hlt a b ha).2 hb
        exact ⟨hw b (ne_bot_of_gt hl), hl⟩
    rw [this, Finset.card_image_of_injOn, Fin.card_Iio]
    intro b hb c _ e
    have hl := (hlt a b ha).2 (Finset.mem_Iio.1 (Finset.mem_coe.1 hb))
    exact hi b c e (ne_bot_of_gt hl)
  by_cases h : w j = ⊥
  · rw [h]
    rcases nth_mem S j.val with e | ⟨hm, hr⟩
    · exact e.symm
    · by_contra hne
      obtain ⟨i, hwi⟩ := hS _ hm
      have hib : w i ≠ ⊥ := fun e => hne (by rw [← hwi, e])
      rw [← hwi, hrk i hib] at hr
      rcases eq_or_lt_of_le (show j ≤ i from hr) with e | l
      · exact hib (e ▸ h)
      · exact hib (le_bot_iff.1 ((hd j i l).trans h.le))
  · exact (nth_of_rk (hw j h) (hrk j h)).symm

section Sorts

variable {N : ℕ} (x : FVec Ideal (Sh N) .f32) (i : Fin 512)

/-- Row `i`. -/
def row (j : Fin N) : EReal := x (ValueIdx.ix2 i j)

/-- A comparator that compares extended reals. -/
def Less (cmp : Ideal .f32 → Ideal .f32 → BitVec 1) : Prop := ∀ l r, cmp l r = BitVec.ofBool (decide ((l : EReal) < (r : EReal)))

theorem beq_ofBool (b : Bool) : (BitVec.ofBool b == 1#1) = b := by cases b <;> decide

/-- Position `k` of the row through `j`. -/
abbrev al (j k : Fin N) : (Sh N).Idx := Shape.Idx.along (s := Sh N) (ValueIdx.ix2 i j) (⟨1, Nat.one_lt_two⟩ : Fin (Sh N).rank) k

theorem al_eq (j k : Fin N) : al i j k = ValueIdx.ix2 i k := by
  funext a
  match a with
  | ⟨0, _⟩ => rfl
  | ⟨1, _⟩ => rfl

theorem sort_apply {cmp : Ideal .f32 → Ideal .f32 → BitVec 1} (hc : Less cmp) (j : Fin N) :
    (Host.sort (Sh N) 1 cmp x (ValueIdx.ix2 i j) : EReal) = row x i (place (row x i) j) := by
  unfold Host.sort
  rw [dif_pos (show 1 < (Sh N).rank from Nat.one_lt_two)]
  have : (fun k k' : Fin N => cmp (x (al i j k)) (x (al i j k')) == 1#1) = fun k k' => decide (row x i k < row x i k') := by
    funext k k'; rw [hc, beq_ofBool, al_eq, al_eq]; rfl
  show x (al i j (sortedFrom (n := N) (fun k k' : Fin N => cmp (x (al i j k)) (x (al i j k')) == 1#1) j)) = _
  rw [this, al_eq]
  rfl

theorem argsort_apply {cmp : Ideal .f32 × BitVec 32 → Ideal .f32 × BitVec 32 → BitVec 1}
    (hc : ∀ l r, cmp l r = BitVec.ofBool (decide ((l.1 : EReal) < (r.1 : EReal)))) (y : IVec (Sh N) 32) (j : Fin N) :
    (Host.sort2 (Sh N) 1 cmp x y).2 (ValueIdx.ix2 i j) = y (ValueIdx.ix2 i (place (row x i) j)) := by
  unfold Host.sort2
  rw [dif_pos (show 1 < (Sh N).rank from Nat.one_lt_two)]
  have : (fun k k' : Fin N => cmp (x (al i j k), y (al i j k)) (x (al i j k'), y (al i j k')) == 1#1)
      = fun k k' => decide (row x i k < row x i k') := by
    funext k k'; rw [hc, beq_ofBool, al_eq, al_eq]; rfl
  show y (al i j (sortedFrom (n := N) (fun k k' : Fin N => cmp (x (al i j k), y (al i j k)) (x (al i j k'), y (al i j k')) == 1#1) j)) = _
  rw [this, al_eq]
  rfl

end Sorts

/-! ## The comparators -/

/-- What a comparator makes of an entry before it compares: one zero, one junk value. -/
theorem key_eq (l : Ideal .f32) :
    (Scalar.select (FloatOps.cmpf .une l l) (FloatOps.ofBits .f32 0x7FC00000#32)
      (Scalar.select (FloatOps.cmpf .oeq l (FloatOps.ofBits .f32 0x00000000#32)) (FloatOps.ofBits .f32 0x00000000#32) l) : Ideal .f32) = l := by
  have h1 : (FloatOps.cmpf .une l l : BitVec 1) = 0#1 := by
    show Ideal.cmp .une l l = 0#1
    simp [Ideal.cmp]
  rw [h1]
  by_cases h : l = FloatOps.ofBits .f32 0x00000000#32
  · rw [← h]
    have h2 : (FloatOps.cmpf .oeq l l : BitVec 1) = 1#1 := by
      show Ideal.cmp .oeq l l = 1#1
      simp [Ideal.cmp]
    rw [h2]; rfl
  · have h2 : (FloatOps.cmpf .oeq l (FloatOps.ofBits .f32 0x00000000#32) : BitVec 1) = 0#1 := by
      show Ideal.cmp .oeq l _ = 0#1
      simp only [Ideal.cmp, decide_eq_false h]; rfl
    rw [h2]; rfl

theorem total_lt (l r : Ideal .f32) : (FloatOps.cmpfTotal .lt l r : BitVec 1) = BitVec.ofBool (decide ((l : EReal) < (r : EReal))) := rfl

/-! ## Reductions by "and" -/

theorem reduce_andi_iff {s t u : Shape} {axes : List (Fin s.rank)} (x : IVec s 1) (init : IVec u 1) (h : s.ReducesTo axes t) (hu : 0 < u.numel)
    (j : t.Idx) : Host.reduce IntOp.andi x init h hu j = 1#1 ↔ init (Shape.Idx.first hu) = 1#1 ∧ ∀ i, h.drop i = j → x i = 1#1 := by
  rw [Host.reduce_eq_fold]
  have := Finset.fold_op_rel_iff_and (op := IntOp.andi) (f := x) (b := init (Shape.Idx.first hu))
    (s := Finset.univ.filter fun i => h.drop i = j) (r := fun a b : BitVec 1 => a = 1#1 → b = 1#1) (c := 1#1)
    (fun {a b c} => by revert a b c; decide)
  simpa only [Finset.mem_filter, Finset.mem_univ, true_and, forall_const] using this

end Cert.Sorted

end
-- ==== Proof.Merge.lean ====
/- What the kernel leaves on every device: the first sixteen values of each row over all blocks. -/
module

public import proofs.«01_k».proof.Proof.Rows
public import proofs.«01_k».proof.Proof.Frames
public import proofs.«01_k».proof.Proof.Sorted
public import Idealize.ShloMosaic.Lib.Layout

@[expose] public section

noncomputable section

namespace Cert.KernelIdeal.Run

open Idealize.ShloMosaic Idealize.ShloMosaic.TcCoe Idealize.SL.Sem
open Cert.KernelIdeal Cert.KernelIdeal.Gen Cert.KernelIdeal.Val
open Cert.Rank Cert.Columns

variable {m : (ℓ : Loc nD τ sig) → Buf (Elt Ideal) ℓ} {ρ : Dev nD → PrngReg} {i : Fin 512} {θ : EReal}

/-- What a device holds is what its peer reads of it. -/
theorem lift_top {v : FVec Ideal S512x16 .f32} {A : Finset EReal} (h : IsTop θ v i A) :
    IsTop θ (shapeCast S512x16 (lift (F := Ideal) v) shapeCasts_S1x512x16_S512x16) i A := by
  have : shapeCast S512x16 (lift (F := Ideal) v) shapeCasts_S1x512x16_S512x16 = v := by
    unfold lift
    rw [shapeCast_shapeCast]

  rw [this]; exact h

variable (m i) in
/-- The values of row `i` of device `c`'s block. -/
def blockSet (c : Dev nD) : Finset EReal :=
  rowSet (N := 4096) (m ((c.tc : Thread nD τ).loc main_arg0)) i

/-- A device's own candidates, of its block of the argument. -/
theorem K0_top {c : Dev nD} (h : RowInj (N := 4096) θ (m ((c.tc : Thread nD τ).loc main_arg0)) i) :
    IsTop θ (K0 m ρ c) i (blockSet m i c) := by
  rw [← Cert.Proof.xstg_eq m ρ c] at h
  unfold blockSet
  rw [← Cert.Proof.xstg_eq m ρ c]
  exact C0_top h

/-- A device's own candidates are the first sixteen values of a row of its block, where no two entries above the sixteenth are equal. -/
theorem K0_top_self {c : Dev nD} (h : RowInj (N := 4096) (nth (blockSet m i c) 15) (m ((c.tc : Thread nD τ).loc main_arg0)) i) :
    IsTop ⊥ (K0 m ρ c) i (blockSet m i c) :=
  IsTop.of_eq ⊥ fun j => eq_of_clip ((K0_top h j).trans (nth_up _ _)) (nth_anti _ (by omega))

/-- After the three exchanges every device holds the first sixteen values of the row over all blocks, where each device's own
    candidates are the first sixteen of its block. -/
theorem K3_top (h0 : ∀ c, IsTop θ (K0 m ρ c) i (blockSet m i c)) (c : Dev nD) :
    IsTop θ (K3 m ρ c) i (Finset.univ.biUnion (blockSet m i)) := by
  have h1 : ∀ c, IsTop θ (K1 m ρ c) i (blockSet m i c ∪ blockSet m i (peer 0 c)) := fun c => MG0_top (h0 c) (lift_top (h0 _))
  have h2 : ∀ c, IsTop θ (K2 m ρ c) i ((blockSet m i c ∪ blockSet m i (peer 0 c)) ∪ (blockSet m i (peer 1 c) ∪ blockSet m i (peer 0 (peer 1 c)))) :=
    fun c => MG1_top (h1 c) (lift_top (h1 _))
  have h3 := MG2_top (h2 c) (lift_top (h2 (peer 2 c)))
  have e : Finset.univ.biUnion (blockSet m i) = (((blockSet m i c ∪ blockSet m i (peer 0 c)) ∪ (blockSet m i (peer 1 c) ∪ blockSet m i (peer 0 (peer 1 c))))
      ∪ ((blockSet m i (peer 2 c) ∪ blockSet m i (peer 0 (peer 2 c))) ∪ (blockSet m i (peer 1 (peer 2 c)) ∪ blockSet m i (peer 0 (peer 1 (peer 2 c)))))) := by
    have all : ∀ c d : Dev nD, d = c ∨ d = peer 0 c ∨ d = peer 1 c ∨ d = peer 0 (peer 1 c) ∨ d = peer 2 c ∨ d = peer 0 (peer 2 c)
        ∨ d = peer 1 (peer 2 c) ∨ d = peer 0 (peer 1 (peer 2 c)) := by decide
    ext s
    simp only [Finset.mem_biUnion, Finset.mem_univ, true_and, Finset.mem_union]
    constructor
    · rintro ⟨d, hd⟩
      rcases all c d with rfl | rfl | rfl | rfl | rfl | rfl | rfl | rfl <;> simp only [hd, true_or, or_true]
    · rintro (((h | h) | (h | h)) | ((h | h) | (h | h))) <;> exact ⟨_, h⟩
  rw [e]; exact h3

section Blocks

set_option backward.proofsInPublic true

variable {X : FVec Ideal (Sh 32768) .f32}
  (hX : ∀ c : Dev nD, m ((c.tc : Thread nD τ).loc main_arg0) = Layout.block ⟨2, ![512, 4096]⟩ ⟨2, ![512, 32768]⟩ 1 8 c X)

include hX in
/-- An entry of a device's block is the whole array's, the blocks side by side. -/
theorem block_entry (c : Dev nD) (j : Fin 4096) :
    (m ((c.tc : Thread nD τ).loc main_arg0) : FVec Ideal (Sh 4096) .f32) (ValueIdx.ix2 i j)
      = X (ValueIdx.ix2 i ⟨c.val * 4096 + j.val, by have : c.val < 8 := c.isLt; omega⟩) := by
  rw [hX c, Layout.block_apply]
  refine congrArg X (funext fun a => Fin.ext ?_)
  match a with
  | ⟨0, _⟩ => rfl
  | ⟨1, _⟩ => rfl

include hX in
theorem biUnion_blocks : Finset.univ.biUnion (blockSet m i) = rowSet X i := by
  ext s
  simp only [Finset.mem_biUnion, Finset.mem_univ, true_and, blockSet, rowSet, Finset.mem_image]
  constructor
  · rintro ⟨c, j, rfl⟩
    exact ⟨_, (block_entry hX c j).symm⟩
  · rintro ⟨k, rfl⟩
    refine ⟨(⟨k.val / 4096, by omega⟩ : Fin 8), ⟨k.val % 4096, by omega⟩, (block_entry hX _ _).trans (congrArg X (congrArg (ValueIdx.ix2 i) (Fin.ext ?_)))⟩
    show k.val / 4096 * 4096 + k.val % 4096 = k.val
    omega

include hX in
/-- A row without equal entries above `θ` has none within a block. -/
theorem block_inj (h : RowInj θ X i) (c : Dev nD) : RowInj (N := 4096) θ (m ((c.tc : Thread nD τ).loc main_arg0)) i := fun a b e ht => by
  simp only [block_entry hX] at e ht
  have := congrArg Fin.val (h _ _ e ht)
  refine Fin.ext ?_
  simpa using this

include hX in
/-- The kernel's result on every device, where no two entries of a block's row above its sixteenth value are equal: the whole
    row's first sixteen values. -/
theorem K3_apply (h : ∀ c : Dev nD, RowInj (N := 4096) (nth (blockSet m i c) 15) (m ((c.tc : Thread nD τ).loc main_arg0)) i)
    (c : Dev nD) (j : Fin 16) : (K3 m ρ c (ValueIdx.ix2 i j) : EReal) = nth (rowSet X i) j.val := by
  rw [← biUnion_blocks hX]
  exact eq_of_clip ((K3_top (fun c => K0_top_self (h c)) c j).trans (nth_up _ _)) bot_le

include hX in
/-- Entry `j` of the kernel's result on every device, where no two entries of the row above its value `j` are equal: that value. -/
theorem K3_apply_of_above (j : Fin 16) (h : RowInj (nth (rowSet X i) j.val) X i) (c : Dev nD) :
    (K3 m ρ c (ValueIdx.ix2 i j) : EReal) = nth (rowSet X i) j.val := by
  have := K3_top (ρ := ρ) (fun c => K0_top (block_inj hX h c)) c j
  rw [biUnion_blocks hX, nth_up] at this
  exact eq_of_clip this le_rfl

end Blocks

end Cert.KernelIdeal.Run

end
-- ==== Proof.Take.lean ====
/- Entries taken from each row at given positions: indices wrapped, read from the row, and replaced where out of range. At a position
   inside the row the entry is the row's there. -/
module

public import proofs.«01_k».proof.Proof.Sorted

@[expose] public section

noncomputable section

namespace Cert.Sorted

open Idealize.ShloMosaic Idealize.SL.Sem
open Cert.Rank Cert.Columns Idealize.ShloMosaic.StableHlo.Predicate

abbrev S₀ : Shape := ⟨0, ![]⟩
abbrev S₁ : Shape := ⟨1, ![1]⟩
abbrev S₁₁₁ : Shape := ⟨3, ![1, 1, 1]⟩
abbrev St : Shape := ⟨3, ![512, 16, 1]⟩

/-- The shape conditions of the operations. -/
structure TakeOk : Prop where
  b : S₀.BroadcastsInDim (Sh 16) (![] : Fin 0 → Fin (Sh 16).rank)
  cast : (Sh 16).ShapeCasts St
  bt : S₀.BroadcastsInDim St (![] : Fin 0 → Fin St.rank)
  b1 : S₁.BroadcastsInDim S₁₁₁ (![2] : Fin 1 → Fin S₁₁₁.rank)
  b2 : S₁₁₁.BroadcastsInDim St (![0, 1, 2] : Fin 3 → Fin St.rank)
  red : St.ReducesTo [2] (Sh 16)
  pos : 0 < S₀.numel
  wf : GatherDims.WF (Sh 32768) St (Sh 16) [] [1] [0] [1] [0] 2 ![1, 1]

/-- Reading one entry per row and index. -/
def dims (h : TakeOk) : GatherDims (Sh 32768) St (Sh 16) where
  offsetDims := []
  collapsedSliceDims := [1]
  operandBatchingDims := [0]
  startIndicesBatchingDims := [0]
  startIndexMap := [1]
  indexVectorDim := 2
  sliceSizes := ![1, 1]
  wf := h.wf

section Any

variable {F : FTy → Type} [FloatOps F]

/-- The indices with the negative ones counted from the row's end. -/
def starts (h : TakeOk) (idx : IVec (Sh 16) 32) : IVec St 32 :=
  shapeCast St (select (cmpi .slt idx (broadcastInDim (Sh 16) ![] h.b (constantI S₀ 32 0#32)))
    (addi idx (broadcastInDim (Sh 16) ![] h.b (constantI S₀ 32 32768#32))) idx) h.cast

/-- The entries at the indices, and the fill value where an index is out of range. -/
def take (h : TakeOk) (y : FVec F (Sh 32768) .f32) (idx : IVec (Sh 16) 32) : FVec F (Sh 16) .f32 :=
  select (Host.reduce IntOp.andi
      (andi (cmpi .sge (starts h idx) (broadcastInDim St ![] h.bt (constantI S₀ 32 0#32)))
        (cmpi .sle (starts h idx) (broadcastInDim St ![0, 1, 2] h.b2 (broadcastInDim S₁₁₁ ![2] h.b1 (constantI S₁ 32 32767#32)))))
      (constantI S₀ 1 1#1) h.red h.pos)
    (Host.gather (dims h) y (starts h idx))
    (broadcastInDim (Sh 16) ![] h.b (constant S₀ .f32 0x7FC00000#32))

end Any

variable (h : TakeOk) (idx : IVec (Sh 16) 32) (i : Fin 512) (j : Fin 16) (p : Fin 32768)

theorem starts_apply (hp : idx (ValueIdx.ix2 i j) = BitVec.ofNat 32 p.val) :
    starts h idx (ValueIdx.ix3 i j (0 : Fin 1)) = BitVec.ofNat 32 p.val := by
  unfold starts
  rw [shapeCast_apply _ h.cast (ValueIdx.ix3 i j (0 : Fin 1)) (ValueIdx.ix2 i j)
    (by rw [rowMajor_val2 _ 16 rfl, rowMajor_val3 _ 16 1 rfl rfl]; simp)]
  have hs : IntOp.cmpi .slt (BitVec.ofNat 32 p.val) 0#32 ≠ 1#1 := fun e => by
    have := (slt_iff_toNat (a := BitVec.ofNat 32 p.val) (b := 0#32) (by simp; omega) (by simp)).1 e
    simp at this
  show Scalar.select (IntOp.cmpi .slt (idx (ValueIdx.ix2 i j)) 0#32) _ (idx (ValueIdx.ix2 i j)) = _
  rw [hp]
  unfold Scalar.select
  rw [if_neg (by simpa using hs)]

theorem gather_apply {α : Type} (y : (Sh 32768).Idx → α) (st : IVec St 32)
    (hst : st (ValueIdx.ix3 i j (0 : Fin 1)) = BitVec.ofNat 32 p.val) :
    Host.gather (dims h) y st (ValueIdx.ix2 i j) = y (ValueIdx.ix2 i p) := by
  unfold Host.gather
  refine congrArg y (funext fun a => Fin.ext ?_)
  match a with
  | ⟨0, h0⟩ =>
    show (dims h).start _ st ⟨0, h0⟩ + (dims h).batchCoord _ ⟨0, h0⟩ + (dims h).offCoord _ ⟨0, h0⟩ = i.val
    rw [GatherDims.start_batching _ _ _ _ (List.mem_singleton.mpr rfl)]
    simp [GatherDims.batchCoord, GatherDims.offCoord, dims]
    rfl
  | ⟨1, h1⟩ =>
    show (dims h).start _ st ⟨1, h1⟩ + (dims h).batchCoord _ ⟨1, h1⟩ + (dims h).offCoord _ ⟨1, h1⟩ = p.val
    have e : (dims h).start (ValueIdx.ix2 i j) st ⟨1, h1⟩ = min (st (ValueIdx.ix3 i j (0 : Fin 1))).toInt.toNat 32767 := by
      unfold GatherDims.start
      rw [dif_pos (show (⟨1, h1⟩ : Fin (Sh 32768).rank) ∈ (dims h).startIndexMap from List.mem_singleton.mpr rfl)]
      have es : (dims h).siIdx (ValueIdx.ix2 i j) ⟨List.idxOf ⟨1, h1⟩ (dims h).startIndexMap,
          List.idxOf_lt_length_iff.2 (List.mem_singleton.mpr rfl)⟩ = ValueIdx.ix3 i j (0 : Fin 1) := by
        funext b
        match b with
        | ⟨0, _⟩ => rfl
        | ⟨1, _⟩ => rfl
        | ⟨2, _⟩ => exact Fin.ext (Nat.lt_one_iff.mp (Fin.isLt _))
      rw [es]
      rfl
    have hb : (⟨1, h1⟩ : Fin (Sh 32768).rank) ∉ (dims h).operandBatchingDims := by
      show (1 : Fin 2) ∉ [(0 : Fin 2)]
      decide
    have ho : (⟨1, h1⟩ : Fin (Sh 32768).rank) ∉ (dims h).sKept := fun k =>
      ((GatherDims.mem_sKept _ _).1 k).1 (List.mem_singleton.mpr rfl)
    rw [e, hst, GatherDims.batchCoord_eq_zero _ _ _ hb, GatherDims.offCoord_eq_zero _ _ _ ho, toInt_ofNat_small _ (by omega)]
    have := p.isLt
    omega

theorem take_apply (y : FVec Ideal (Sh 32768) .f32) (hp : idx (ValueIdx.ix2 i j) = BitVec.ofNat 32 p.val) :
    take h y idx (ValueIdx.ix2 i j) = y (ValueIdx.ix2 i p) := by
  have hst := starts_apply h idx i j p hp
  unfold take
  have hm := (reduce_andi_iff (andi (cmpi .sge (starts h idx) (broadcastInDim St ![] h.bt (constantI S₀ 32 0#32)))
        (cmpi .sle (starts h idx) (broadcastInDim St ![0, 1, 2] h.b2 (broadcastInDim S₁₁₁ ![2] h.b1 (constantI S₁ 32 32767#32)))))
      (constantI S₀ 1 1#1) h.red h.pos (ValueIdx.ix2 i j)).2 ⟨rfl, fun t ht => by
    have e0 : t 0 = i := by have := congrFun ht 0; exact this
    have e1 : t 1 = j := by have := congrFun ht 1; exact this
    have e : t = ValueIdx.ix3 i j (0 : Fin 1) := by
      rw [ValueIdx.eq_ix3 t, e0, e1]
      exact congrArg (ValueIdx.ix3 i j) (Fin.ext (Nat.lt_one_iff.mp (t 2).isLt))
    subst e
    show IntOp.andi (IntOp.cmpi .sge (starts h idx _) 0#32) (IntOp.cmpi .sle (starts h idx _) 32767#32) = 1#1
    rw [hst, (sge_iff_toNat (a := BitVec.ofNat 32 p.val) (b := 0#32) (by simp; omega) (by simp)).2 (by simp),
      (sle_iff_toNat (a := BitVec.ofNat 32 p.val) (b := 32767#32) (by simp; omega) (by simp)).2 (by simp; omega)]
    decide⟩
  show Scalar.select (Host.reduce _ _ _ _ _ _) (Host.gather _ _ _ _) _ = _
  rw [hm, gather_apply h i j p y _ hst]
  rfl

end Cert.Sorted

end
-- ==== Proof.Lists.lean ====
/- What a reference lists: the entries of each row in descending order, and the values of a row with its repeats replaced by the bottom. -/
module

public import proofs.«01_k».proof.Proof.Take

@[expose] public section

noncomputable section

namespace Cert.Sorted

open Idealize.ShloMosaic Idealize.SL.Sem
open Cert.Rank Cert.Columns

section Descending

variable {F : FTy → Type} [FloatOps F]

/-- The positions of the sixteen largest entries of each row, the entries sorted by their negatives. -/
def positions (hs : (Sh 32768).Slices ![0, 0] (Sh 16)) (cmp : F .f32 × BitVec 32 → F .f32 × BitVec 32 → BitVec 1)
    (y : FVec F (Sh 32768) .f32) : IVec (Sh 16) 32 :=
  extractStridedSlice (Sh 16) ![0, 0] (Host.sort2 (Sh 32768) 1 cmp (Host.negf y) (iotaInDim (Sh 32768) 32 1)).2 hs

end Descending

/-- The entries taken are the row's in falling order. -/
theorem take_positions_apply (h : TakeOk) (hs : (Sh 32768).Slices ![0, 0] (Sh 16))
    {cmp : Ideal .f32 × BitVec 32 → Ideal .f32 × BitVec 32 → BitVec 1}
    (hc : ∀ l r, cmp l r = BitVec.ofBool (decide ((l.1 : EReal) < (r.1 : EReal)))) (y : FVec Ideal (Sh 32768) .f32)
    (i : Fin 512) (j : Fin 16) :
    (take h y (positions hs cmp y) (ValueIdx.ix2 i j) : EReal) = row y i (order (row y i) ⟨j.val, by omega⟩) := by
  refine take_apply h _ i j (order (row y i) ⟨j.val, by omega⟩) y ?_
  unfold positions
  rw [extractStridedSlice_apply _ _ hs _ (ValueIdx.ix2 i (⟨j.val, by omega⟩ : Fin 32768)) fun a => by
    match a with
    | ⟨0, _⟩ => exact (Nat.zero_add _).symm
    | ⟨1, _⟩ => exact (Nat.zero_add _).symm]
  rw [argsort_apply _ i hc]
  rfl

/-- The sixteen entries taken are the first values of `S`, where the row's entries above the bottom are all different and are `S`'s. -/
theorem take_positions_nth (h : TakeOk) (hs : (Sh 32768).Slices ![0, 0] (Sh 16))
    {cmp : Ideal .f32 × BitVec 32 → Ideal .f32 × BitVec 32 → BitVec 1}
    (hc : ∀ l r, cmp l r = BitVec.ofBool (decide ((l.1 : EReal) < (r.1 : EReal)))) (y : FVec Ideal (Sh 32768) .f32)
    (i : Fin 512) (S : Finset EReal) (hi : ∀ a b, row y i a = row y i b → row y i a ≠ ⊥ → a = b)
    (hS : ∀ s ∈ S, ∃ a, row y i a = s) (hw : ∀ a, row y i a ≠ ⊥ → row y i a ∈ S) (j : Fin 16) :
    (take h y (positions hs cmp y) (ValueIdx.ix2 i j) : EReal) = nth S j.val := by
  rw [take_positions_apply h hs hc]
  refine nth_of_descending S (fun k : Fin 32768 => row y i (order (row y i) k)) (fun a b hab => order_le _ hab.le)
    (fun a b e hb => order_inj _ (hi _ _ e hb)) (fun s hs => ?_) (fun a ha => hw _ ha) (⟨j.val, by omega⟩ : Fin 32768)
  obtain ⟨a, rfl⟩ := hS s hs
  obtain ⟨k, rfl⟩ := order_surj (row y i) a
  exact ⟨k, rfl⟩

/-! ## A sorted row with each repeated entry but its last replaced -/

section Repeats

variable {N : ℕ} {σ y : Fin N → EReal} (hm : Monotone σ)
  (hy : ∀ k, y k = if ∃ hk : k.val + 1 < N, σ k = σ ⟨k.val + 1, hk⟩ then ⊥ else σ k)

include hy in
theorem kept {k : Fin N} (h : y k ≠ ⊥) : y k = σ k ∧ ∀ hk : k.val + 1 < N, σ k ≠ σ ⟨k.val + 1, hk⟩ := by
  rw [hy] at h ⊢
  by_cases hc : ∃ hk : k.val + 1 < N, σ k = σ ⟨k.val + 1, hk⟩
  · rw [if_pos hc] at h; exact absurd rfl h
  · rw [if_neg hc]; exact ⟨rfl, fun hk e => hc ⟨hk, e⟩⟩

include hm hy in
theorem kept_lt {a b : Fin N} (h : a < b) (ha : y a ≠ ⊥) : σ a < σ b := by
  have hk : a.val + 1 < N := by have := b.isLt; have : a.val < b.val := h; omega
  exact (lt_of_le_of_ne (hm (show a ≤ ⟨a.val + 1, hk⟩ from Nat.le_succ _)) ((kept hy ha).2 hk)).trans_le
    (hm (show (⟨a.val + 1, hk⟩ : Fin N) ≤ b from Nat.succ_le_of_lt h))

include hm hy in
theorem kept_inj (a b : Fin N) (e : y a = y b) (ha : y a ≠ ⊥) : a = b := by
  have hb : y b ≠ ⊥ := e ▸ ha
  have hs : σ a = σ b := by rw [← (kept hy ha).1, ← (kept hy hb).1, e]
  rcases lt_trichotomy a b with h | h | h
  · exact absurd hs (kept_lt hm hy h ha).ne
  · exact h
  · exact absurd hs (kept_lt hm hy h hb).ne'

include hm hy in
theorem kept_all (k : Fin N) : ∃ a, y a = σ k := by
  have hne : (Finset.univ.filter fun a => σ a = σ k).Nonempty := ⟨k, by simp⟩
  have hu := Finset.max'_mem _ hne
  set u := (Finset.univ.filter fun a => σ a = σ k).max' hne with hu'
  rw [Finset.mem_filter] at hu
  refine ⟨u, ?_⟩
  rw [hy, if_neg, hu.2]
  rintro ⟨hk, e⟩
  have := Finset.le_max' (Finset.univ.filter fun a => σ a = σ k) ⟨u.val + 1, hk⟩ (by
    rw [Finset.mem_filter]; exact ⟨Finset.mem_univ _, e ▸ hu.2⟩)
  rw [← hu'] at this
  exact absurd (show u.val + 1 ≤ u.val from this) (by omega)

end Repeats

section Distinct

variable {F : FTy → Type} [FloatOps F]

/-- The shape conditions of the operations that replace a sorted row's repeats. -/
structure RepOk : Prop where
  lo : (Sh 32768).Slices ![0, 0] (Sh 32767)
  hi : (Sh 32768).Slices ![0, 1] (Sh 32767)
  last : (Sh 32768).Slices ![0, 32767] (Sh 1)
  b : S₀.BroadcastsInDim (Sh 32767) (![] : Fin 0 → Fin (Sh 32767).rank)
  cat : Shape.Concatenates [Sh 32767, Sh 1] (Sh 32768) 1

/-- Each row of `s` with every entry that equals the next one replaced by minus infinity. -/
def unrepeat (h : RepOk) (s : FVec F (Sh 32768) .f32) : FVec F (Sh 32768) .f32 :=
  concatenate (Sh 32768) 1 [⟨Sh 32767, select
      (cmpf .oeq (extractStridedSlice (Sh 32767) ![0, 0] s h.lo) (extractStridedSlice (Sh 32767) ![0, 1] s h.hi))
      (broadcastInDim (Sh 32767) ![] h.b (id (constant S₀ .f32 0xFF800000#32)))
      (extractStridedSlice (Sh 32767) ![0, 0] s h.lo)⟩,
    ⟨Sh 1, extractStridedSlice (Sh 1) ![0, 32767] s h.last⟩] h.cat

end Distinct

theorem unrepeat_apply (h : RepOk) (s : FVec Ideal (Sh 32768) .f32) (i : Fin 512) (k : Fin 32768) :
    row (unrepeat h s) i k = if ∃ hk : k.val + 1 < 32768, row s i k = row s i ⟨k.val + 1, hk⟩ then ⊥ else row s i k := by
  by_cases hk : k.val + 1 < 32768
  · have e : row (unrepeat h s) i k = Scalar.select (FloatOps.cmpf .oeq
        (extractStridedSlice (Sh 32767) ![0, 0] s h.lo (ValueIdx.ix2 i (⟨k.val, by omega⟩ : Fin 32767)))
        (extractStridedSlice (Sh 32767) ![0, 1] s h.hi (ValueIdx.ix2 i (⟨k.val, by omega⟩ : Fin 32767))))
        (Ideal.ofBits .f32 0xFF800000#32)
        (extractStridedSlice (Sh 32767) ![0, 0] s h.lo (ValueIdx.ix2 i (⟨k.val, by omega⟩ : Fin 32767))) :=
      concatenate_pair_apply_left (1 : Fin (Sh 32768).rank) _ _ h.cat _ rfl (ValueIdx.ix2 i (⟨k.val, by omega⟩ : Fin 32767)) fun c => by
        match c with
        | ⟨0, _⟩ => rfl
        | ⟨1, _⟩ => rfl
    have e0 : extractStridedSlice (Sh 32767) ![0, 0] s h.lo (ValueIdx.ix2 i (⟨k.val, by omega⟩ : Fin 32767)) = s (ValueIdx.ix2 i k) :=
      extractStridedSlice_apply _ s h.lo _ (ValueIdx.ix2 i k) fun a => by
        match a with
        | ⟨0, _⟩ => exact (Nat.zero_add _).symm
        | ⟨1, _⟩ => exact (Nat.zero_add _).symm
    have e1 : extractStridedSlice (Sh 32767) ![0, 1] s h.hi (ValueIdx.ix2 i (⟨k.val, by omega⟩ : Fin 32767))
        = s (ValueIdx.ix2 i ⟨k.val + 1, hk⟩) :=
      extractStridedSlice_apply _ s h.hi _ (ValueIdx.ix2 i ⟨k.val + 1, hk⟩) fun a => by
        match a with
        | ⟨0, _⟩ => exact (Nat.zero_add _).symm
        | ⟨1, _⟩ => exact Nat.add_comm _ _
    rw [e, e0, e1, ofBits_neg_inf]
    have hx : (∃ hk : k.val + 1 < 32768, row s i k = row s i ⟨k.val + 1, hk⟩) ↔ s (ValueIdx.ix2 i k) = s (ValueIdx.ix2 i ⟨k.val + 1, hk⟩) :=
      ⟨fun ⟨_, h⟩ => h, fun h => ⟨hk, h⟩⟩
    show Scalar.select (Ideal.cmp .oeq _ _) _ _ = _
    by_cases hc : s (ValueIdx.ix2 i k) = s (ValueIdx.ix2 i ⟨k.val + 1, hk⟩)
    · rw [if_pos (hx.2 hc)]
      simp only [Ideal.cmp, hc, decide_true]
      rfl
    · rw [if_neg (fun q => hc (hx.1 q))]
      simp only [Ideal.cmp, decide_eq_false hc]
      rfl
  · rw [if_neg (fun q => hk q.1)]
    have e : row (unrepeat h s) i k = extractStridedSlice (Sh 1) ![0, 32767] s h.last (ValueIdx.ix2 i (0 : Fin 1)) :=
      concatenate_pair_apply_right (1 : Fin (Sh 32768).rank) _ _ h.cat _ rfl rfl (ValueIdx.ix2 i (0 : Fin 1)) (fun c hcne => by
        match c with
        | ⟨0, _⟩ => rfl
        | ⟨1, _⟩ => exact absurd rfl hcne) (show 0 + 32767 = k.val by omega)
    rw [e]
    exact extractStridedSlice_apply _ s h.last _ (ValueIdx.ix2 i k) fun a => by
      match a with
      | ⟨0, _⟩ => exact (Nat.zero_add _).symm
      | ⟨1, _⟩ => exact (show k.val = 32767 + 0 by omega)

/-- The sixteen entries taken of a sorted row without its repeats are the row's first values. -/
theorem take_unrepeat (h : TakeOk) (hs : (Sh 32768).Slices ![0, 0] (Sh 16)) (hr : RepOk)
    {cmp : Ideal .f32 × BitVec 32 → Ideal .f32 × BitVec 32 → BitVec 1} {cmp' : Ideal .f32 → Ideal .f32 → BitVec 1}
    (hc : ∀ l r, cmp l r = BitVec.ofBool (decide ((l.1 : EReal) < (r.1 : EReal)))) (hc' : Less cmp')
    (x : FVec Ideal (Sh 32768) .f32) (i : Fin 512) (j : Fin 16) :
    (take h (unrepeat hr (Host.sort (Sh 32768) 1 cmp' x)) (positions hs cmp (unrepeat hr (Host.sort (Sh 32768) 1 cmp' x)))
      (ValueIdx.ix2 i j) : EReal) = nth (rowSet x i) j.val := by
  have hσ : ∀ k, row (Host.sort (Sh 32768) 1 cmp' x) i k = row x i (place (row x i) k) := fun k => sort_apply x i hc' k
  have hm : Monotone (row (Host.sort (Sh 32768) 1 cmp' x) i) := fun a b hab => by
    rw [hσ, hσ]
    rcases eq_or_lt_of_le hab with e | l
    · rw [e]
    · exact place_le _ l
  have hy := unrepeat_apply hr (Host.sort (Sh 32768) 1 cmp' x) i
  refine take_positions_nth h hs hc _ i _ (kept_inj hm hy) (fun s hs => ?_) (fun a ha => ?_) j
  · obtain ⟨a, -, rfl⟩ := Finset.mem_image.1 hs
    obtain ⟨k, rfl⟩ := place_surj (row x i) a
    obtain ⟨b, hb⟩ := kept_all hm hy k
    exact ⟨b, hb.trans (hσ k)⟩
  · rw [(kept hy ha).1, hσ]
    exact Finset.mem_image.2 ⟨_, Finset.mem_univ _, rfl⟩

end Cert.Sorted

end
-- ==== Proof.Values.lean ====
/- The value claims: what the kernel leaves on every device is what the references compute. -/
module

public import proofs.«01_k».proof.Defs
public import proofs.«01_k».proof.Proof.Merge
public import proofs.«01_k».proof.Proof.Lists
public import proofs.«01_k».proof.Proof.Gen.Pre_block_top_distinct_KernelIdeal
public import proofs.«01_k».proof.Proof.Gen.On_top_distinct

@[expose] public section

noncomputable section

namespace Cert.Proof

open Idealize.ShloMosaic Idealize.ShloMosaic.TcCoe Idealize.SL.Sem
open Cert.Rank Cert.Columns Cert.Sorted

/-! ## The comparators compare extended reals -/

theorem less_distinctIdeal : Less (Cert.DistinctIdeal.comparator_f32_d1 (F := Ideal)) := fun l r => by
  unfold Cert.DistinctIdeal.comparator_f32_d1
  simp only []
  rw [key_eq, key_eq]; exact total_lt l r

theorem less_pair_distinctIdeal (l r : Ideal .f32 × BitVec 32) :
    Cert.DistinctIdeal.comparator_f32_i32_d1 (F := Ideal) l r = BitVec.ofBool (decide ((l.1 : EReal) < (r.1 : EReal))) := by
  unfold Cert.DistinctIdeal.comparator_f32_i32_d1
  simp only []
  rw [key_eq, key_eq]; exact total_lt l.1 r.1

theorem less_pair_referenceIdeal (l r : Ideal .f32 × BitVec 32) :
    Cert.ReferenceIdeal.comparator_f32_i32_d1 (F := Ideal) l r = BitVec.ofBool (decide ((l.1 : EReal) < (r.1 : EReal))) := by
  unfold Cert.ReferenceIdeal.comparator_f32_i32_d1
  simp only []
  rw [key_eq, key_eq]; exact total_lt l.1 r.1

theorem less_pre : Less (Cert.Pre_block_top_distinct_KernelIdeal.comparator_f32_d1 (F := Ideal)) := fun l r => by
  unfold Cert.Pre_block_top_distinct_KernelIdeal.comparator_f32_d1
  simp only []
  rw [key_eq, key_eq]; exact total_lt l r

theorem less_on : Less (Cert.On_top_distinct.comparator_f32_d1 (F := Ideal)) := fun l r => by
  unfold Cert.On_top_distinct.comparator_f32_d1
  simp only []
  rw [key_eq, key_eq]; exact total_lt l r

/-! ## What the precondition and the mask say -/

section Falling

variable {F : FTy → Type} [FloatOps F] {N : ℕ}

/-- Which of the sixteen greatest entries of each row lie above the next: the first sixteen of the negated row sorted, compared
    with their neighbours. -/
def falling (hs : (Sh N).Slices ![0, 0] (Sh 16)) (h0 : (Sh 16).Slices ![0, 0] (Sh 15)) (h1 : (Sh 16).Slices ![0, 1] (Sh 15))
    (cmp : F .f32 → F .f32 → BitVec 1) (x : FVec F (Sh N) .f32) : IVec (Sh 15) 1 :=
  cmpf .olt (extractStridedSlice (Sh 15) ![0, 0] (extractStridedSlice (Sh 16) ![0, 0] (Host.sort (Sh N) 1 cmp (Host.negf x)) hs) h0)
    (extractStridedSlice (Sh 15) ![0, 1] (extractStridedSlice (Sh 16) ![0, 0] (Host.sort (Sh N) 1 cmp (Host.negf x)) hs) h1)

end Falling

theorem falling_apply {N : ℕ} (hN : 16 ≤ N) (hs : (Sh N).Slices ![0, 0] (Sh 16)) (h0 : (Sh 16).Slices ![0, 0] (Sh 15))
    (h1 : (Sh 16).Slices ![0, 1] (Sh 15)) {cmp : Ideal .f32 → Ideal .f32 → BitVec 1} (hc : Less cmp) (x : FVec Ideal (Sh N) .f32)
    (i : Fin 512) (k : Fin 15) (h : falling hs h0 h1 cmp x (ValueIdx.ix2 i k) = 1#1) :
    row x i (order (row x i) ⟨k.val + 1, by omega⟩) < row x i (order (row x i) ⟨k.val, by omega⟩) := by
  have hl : (FloatOps.cmpf .olt
      (extractStridedSlice (Sh 15) ![0, 0] (extractStridedSlice (Sh 16) ![0, 0] (Host.sort (Sh N) 1 cmp (Host.negf x)) hs) h0 (ValueIdx.ix2 i k))
      (extractStridedSlice (Sh 15) ![0, 1] (extractStridedSlice (Sh 16) ![0, 0] (Host.sort (Sh N) 1 cmp (Host.negf x)) hs) h1 (ValueIdx.ix2 i k))
        : BitVec 1) = 1#1 := h
  have e16 : ∀ j : Fin 16, (extractStridedSlice (Sh 16) ![0, 0] (Host.sort (Sh N) 1 cmp (Host.negf x)) hs (ValueIdx.ix2 i j) : EReal)
      = -row x i (order (row x i) ⟨j.val, by omega⟩) := fun j => by
    rw [extractStridedSlice_apply _ _ hs _ (ValueIdx.ix2 i (⟨j.val, by omega⟩ : Fin N)) fun a => by
      match a with
      | ⟨0, _⟩ => exact (Nat.zero_add _).symm
      | ⟨1, _⟩ => exact (Nat.zero_add _).symm]
    rw [sort_apply _ i hc]
    rfl
  rw [extractStridedSlice_apply _ _ h0 _ (ValueIdx.ix2 i (⟨k.val, by omega⟩ : Fin 16)) fun a => by
      match a with
      | ⟨0, _⟩ => exact (Nat.zero_add _).symm
      | ⟨1, _⟩ => exact (Nat.zero_add _).symm,
    extractStridedSlice_apply _ _ h1 _ (ValueIdx.ix2 i (⟨k.val + 1, by omega⟩ : Fin 16)) fun a => by
      match a with
      | ⟨0, _⟩ => exact (Nat.zero_add _).symm
      | ⟨1, _⟩ => exact Nat.add_comm _ _, e16, e16] at hl
  have hd : BitVec.ofBool (decide (-row x i (order (row x i) ⟨k.val, by omega⟩)
      < -row x i (order (row x i) ⟨k.val + 1, by omega⟩))) = 1#1 := hl
  by_contra hn
  rw [decide_eq_false (fun q => hn (EReal.neg_lt_neg_iff.1 q))] at hd
  exact absurd hd (by decide)

/-- Under the precondition no two entries of a row of the block above its sixteenth value are equal. -/
theorem rowInj_of_pre (x : FVec Ideal (Sh 4096) .f32)
    (h : Cert.Pre_block_top_distinct_KernelIdeal.fn (F := Ideal) x = fun _ => 1#1) (i : Fin 512) :
    RowInj (nth (rowSet x i) 15) x i := by
  have hf : falling (N := 4096) Cert.Pre_block_top_distinct_KernelIdeal.Facts.slices_S512x4096_S512x16_0_0
      Cert.Pre_block_top_distinct_KernelIdeal.Facts.slices_S512x16_S512x15_0_0
      Cert.Pre_block_top_distinct_KernelIdeal.Facts.slices_S512x16_S512x15_0_1
      Cert.Pre_block_top_distinct_KernelIdeal.comparator_f32_d1 x = fun _ => 1#1 := h
  have ht : ∀ k : Fin 4096, ∀ hk : k.val + 1 < 4096, k < (⟨15, by norm_num⟩ : Fin 4096) →
      row x i (order (row x i) ⟨k.val + 1, hk⟩) < row x i (order (row x i) k) := fun k hk hlt => by
    have hv : k.val < 15 := Fin.lt_def.1 hlt
    exact falling_apply (N := 4096) (by norm_num) _ _ _ less_pre x i ⟨k.val, hv⟩ (by rw [hf])
  have e : nth (rowSet x i) 15 = row x i (order (row x i) ⟨15, by norm_num⟩) := nth_of_top (v := row x i) (j := ⟨15, by norm_num⟩) ht
  rw [e]
  exact fun a b => inj_of_top (v := row x i) (j := ⟨15, by norm_num⟩) ht a b

/-- Whether comparison `k` is of no concern to entry `j`: the later comparisons are not. -/
theorem later_iff (k : Fin 15) (j : Fin 16) : IntOp.cmpi .sge (BitVec.ofNat 32 k.val) (BitVec.ofNat 32 j.val) = 1#1 ↔ j.val ≤ k.val := by
  rw [StableHlo.Predicate.sge_iff_toNat (by simp; omega) (by simp; omega)]
  simp only [BitVec.toNat_ofNat]
  omega

theorem left_of_ori : ∀ p q : BitVec 1, IntOp.ori p q = 1#1 → q ≠ 1#1 → p = 1#1 := by decide

/-- Where the mask is set, each of the row's entries before `j` in falling order lies above the next. -/
theorem falls_of_on (x : FVec Ideal (Sh 32768) .f32) (i : Fin 512) (j : Fin 16)
    (h : Cert.On_top_distinct.fn (F := Ideal) x (ValueIdx.ix2 i j) = 1#1) (k : Fin 32768) (hk : k.val + 1 < 32768)
    (hlt : k < (⟨j.val, by omega⟩ : Fin 32768)) : row x i (order (row x i) ⟨k.val + 1, hk⟩) < row x i (order (row x i) k) := by
  have hv : k.val < j.val := hlt
  unfold Cert.On_top_distinct.fn Cert.On_top_distinct.fn_sort at h
  have hr := ((reduce_andi_iff _ _ _ _ _).1 h).2 (ValueIdx.ix3 i (⟨k.val, by omega⟩ : Fin 15) j) (by
    funext a
    match a with
    | ⟨0, _⟩ => rfl
    | ⟨1, _⟩ => rfl)
  have hr' : IntOp.ori (falling (N := 32768) Cert.On_top_distinct.Facts.slices_S512x32768_S512x16_0_0
      Cert.On_top_distinct.Facts.slices_S512x16_S512x15_0_0 Cert.On_top_distinct.Facts.slices_S512x16_S512x15_0_1
      Cert.On_top_distinct.comparator_f32_d1 x (ValueIdx.ix2 i (⟨k.val, by omega⟩ : Fin 15)))
      (IntOp.cmpi .sge (BitVec.ofNat 32 k.val) (BitVec.ofNat 32 j.val)) = 1#1 := by
    refine Eq.trans (congrArg₂ IntOp.ori ?_ ?_) hr
    · refine congrArg (falling (N := 32768) _ _ _ _ x) (funext fun a => ?_)
      match a with
      | ⟨0, _⟩ => rfl
      | ⟨1, _⟩ => rfl
    · rfl
  have hn : IntOp.cmpi .sge (BitVec.ofNat 32 k.val) (BitVec.ofNat 32 j.val) ≠ 1#1 := fun q => by
    have := (later_iff ⟨k.val, by omega⟩ j).1 q
    simp at this
    omega
  exact falling_apply (N := 32768) (by norm_num) _ _ _ less_on x i ⟨k.val, by omega⟩ (left_of_ori _ _ hr' hn)

/-! ## The references' values -/

theorem takeOk : TakeOk :=
  open Cert.ReferenceIdeal.Gen in
  ⟨bcast_S_S512x16, shapeCasts_S512x16_S512x16x1, bcast_S_S512x16x1, bcast_S1_S1x1x1_2, bcast_S1x1x1_S512x16x1_0_1_2,
    reducesTo_S512x16x1_S512x16_d2, h_S_, gather_S512x32768_S512x16x1_S512x16_n_1_0_0_1_2_11_wf⟩

theorem repOk : RepOk :=
  open Cert.DistinctIdeal.Gen in
  ⟨slices_S512x32768_S512x32767_0_0, slices_S512x32768_S512x32767_0_1, slices_S512x32768_S512x1_0_32767,
    bcast_S_S512x32767, concatenates_S512x32767_S512x1_S512x32768_d1⟩

/-- The first sixteen values of every row. -/
def firsts (X : FVec Ideal (Sh 32768) .f32) : FVec Ideal (Sh 16) .f32 := fun t => nth (rowSet X (t 0)) (t 1).val

/-- The reference that lists different values lists the first sixteen values of every row. -/
theorem distinctIdeal_value (m : (ℓ : Loc Cert.DistinctIdeal.nD Cert.DistinctIdeal.τ Cert.DistinctIdeal.sig) → Buf (Elt Ideal) ℓ)
    (c : Dev Cert.DistinctIdeal.nD) : Cert.DistinctIdeal.Value.res_main_v11 m c
      = firsts (m ((c.tc : Thread Cert.DistinctIdeal.nD Cert.DistinctIdeal.τ).loc Cert.DistinctIdeal.main_arg0)) := by
  funext t
  rw [ValueIdx.eq_ix2 t]
  exact take_unrepeat takeOk Cert.DistinctIdeal.Gen.slices_S512x32768_S512x16_0_0 repOk less_pair_distinctIdeal less_distinctIdeal _ (t 0) (t 1)

/-- The sixteen entries the reference takes of each row. -/
def taken (X : FVec Ideal (Sh 32768) .f32) : FVec Ideal (Sh 16) .f32 :=
  take takeOk X (positions Cert.ReferenceIdeal.Gen.slices_S512x32768_S512x16_0_0 Cert.ReferenceIdeal.comparator_f32_i32_d1 X)

/-! ## The claims -/

/-- Entry `j` of a row, where the `j + 1` greatest entries of the row differ: the kernel leaves on every device what the
    reference computes. -/
theorem value_reference : Cert.algebraic_KernelIdeal_ReferenceIdeal_on_top_distinct := by
  intro m g m' g' _ hX
  refine ⟨taken (m' (((0 : Dev Cert.ReferenceIdeal.nD).tc : Thread Cert.ReferenceIdeal.nD Cert.ReferenceIdeal.τ).loc
    Cert.ReferenceIdeal.main_arg0)), (θ_run Cert.KernelIdeal.defs _ _).mono (fun r h c => ⟨fun t ht => (congrFun (h c).1 t).trans ?_, (h c).2⟩)
      (run_kernelIdeal m g), (θ_run Cert.ReferenceIdeal.defs _ _).mono
      (fun r h => ⟨fun t _ => congrFun (h 0).1 t, (h 0).2⟩) (Cert.ReferenceIdeal.Value.run (F := Ideal) m' g')⟩
  rw [ValueIdx.eq_ix2 t] at ht ⊢
  have hf := falls_of_on _ (t 0) (t 1) ht
  have e := nth_of_top (v := row _ (t 0)) (j := (⟨(t 1).val, Nat.lt_of_lt_of_le (t 1).isLt (by norm_num)⟩ : Fin 32768)) hf
  refine (Cert.KernelIdeal.Run.K3_apply_of_above hX (t 1) (fun a b q hq => inj_of_top (v := row _ (t 0)) (j := (⟨(t 1).val, Nat.lt_of_lt_of_le (t 1).isLt (by norm_num)⟩ : Fin 32768)) hf a b q ?_) c).trans (e.trans
    (take_positions_apply takeOk Cert.ReferenceIdeal.Gen.slices_S512x32768_S512x16_0_0 less_pair_referenceIdeal _ (t 0) (t 1)).symm)
  rw [← e]; exact hq

/-- Where in every row of every device's block the sixteen greatest entries differ, the kernel leaves on every device the
    sixteen greatest different values of each row. -/
theorem value_distinct : Cert.algebraic_KernelIdeal_DistinctIdeal_pre_block_top_distinct_KernelIdeal := by
  intro m g m' g' hp hX
  refine ⟨firsts (m' (((0 : Dev Cert.DistinctIdeal.nD).tc : Thread Cert.DistinctIdeal.nD Cert.DistinctIdeal.τ).loc
    Cert.DistinctIdeal.main_arg0)), (θ_run Cert.KernelIdeal.defs _ _).mono (fun r h c => ⟨(h c).1.trans (funext fun t => ?_), (h c).2⟩)
      (run_kernelIdeal m g), (θ_run Cert.DistinctIdeal.defs _ _).mono
      (fun r h => ⟨(h 0).1.trans (distinctIdeal_value m' 0), (h 0).2⟩) (Cert.DistinctIdeal.Value.run (F := Ideal) m' g')⟩
  rw [ValueIdx.eq_ix2 t]
  exact Cert.KernelIdeal.Run.K3_apply hX (fun c => rowInj_of_pre _ (hp c) (t 0)) c (t 1)

end Cert.Proof

end
-- ==== Proof.lean ====
/- The proof of the certificate's claims. -/
module

public import proofs.«01_k».proof.Defs
public import proofs.«01_k».proof.Proof.Frames
public import proofs.«01_k».proof.Proof.Values
public import proofs.«01_k».proof.Proof.Gen.Pre_block_top_distinct_KernelIdeal
public import proofs.«01_k».proof.Proof.Gen.Pre_block_top_distinct_DistinctIdeal
public import proofs.«01_k».proof.Proof.Gen.On_top_distinct

@[expose] public section

noncomputable section

namespace Cert.Proof

/-- Every claim of the certificate. -/
theorem claim : Cert.Claim :=
  ⟨Cert.Kernel.Gen.facts, Cert.KernelIdeal.Gen.facts, Cert.ReferenceIdeal.Gen.facts, Cert.DistinctIdeal.Gen.facts,
    Cert.Pre_block_top_distinct_KernelIdeal.Gen.facts, Cert.Pre_block_top_distinct_DistinctIdeal.Gen.facts,
    Cert.On_top_distinct.Gen.facts,
    frame_kernel, frame_kernelIdeal, fun m g _ => frame_kernelIdeal m g trivial,
    frame_referenceIdeal, frame_distinctIdeal, fun m g _ => frame_distinctIdeal m g trivial, trivial,
    value_reference, value_distinct⟩

end Cert.Proof

end
